-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S10 : Shape := ⟨1, ![10]⟩
abbrev S_ : Shape := ⟨0, ![]⟩
abbrev S1 : Shape := ⟨1, ![1]⟩
abbrev S64x256 : Shape := ⟨2, ![64, 256]⟩
abbrev S128x256 : Shape := ⟨2, ![128, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .local _ .vmem, ⟨0, _⟩ => ⟨S256x256, .f32⟩
  | .local _ .vmem, ⟨1, _⟩ => ⟨S1024x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v36 : BitVec 32 := Scalar.muli v2 c256_i32
  let c0_i32_19 : BitVec 32 := 0#32
  ![v36.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v39 : BitVec 32 := Scalar.muli v13 c1_i32_21
  let v40 : BitVec 32 := Scalar.addi c0_i32_22 v39
  v40.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v41 : BitVec 32 := Scalar.muli v24 c1_i32_24
  let v42 : BitVec 32 := Scalar.addi c0_i32_25 v41
  v42.toNat
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_27 : BitVec 32 := 256#32
  let v43 : BitVec 32 := Scalar.muli v2 c256_i32_27
  let v44 : BitVec 32 := Scalar.addi v43 c0_i32_28
  let c0_i32_33 : BitVec 32 := 0#32
  ![v44.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v45 : BitVec 32 := Scalar.muli v24 c1_i32_31
  let v46 : BitVec 32 := Scalar.addi c0_i32_32 v45
  v46.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v55 : BitVec 32 := Scalar.muli v24 c1_i32_39
  let v56 : BitVec 32 := Scalar.addi c0_i32_40 v55
  v56.toNat
def k0_off3 (d0 : Dev nD) (c128_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_44 : BitVec 32 := 256#32
  let v63 : BitVec 32 := Scalar.muli v2 c256_i32_44
  let v64 : BitVec 32 := Scalar.addi v63 c128_i32
  let c0_i32_49 : BitVec 32 := 0#32
  ![v64.toNat, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_47 : BitVec 32 := 1#32
  let v65 : BitVec 32 := Scalar.muli v24 c1_i32_47
  let v66 : BitVec 32 := Scalar.addi c0_i32_48 v65
  v66.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v75 : BitVec 32 := Scalar.muli v13 c1_i32_55
  let v76 : BitVec 32 := Scalar.addi c0_i32_56 v75
  v76.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v85 : BitVec 32 := Scalar.muli v13 c1_i32_63
  let v86 : BitVec 32 := Scalar.addi c0_i32_64 v85
  v86.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v95 : BitVec 32 := Scalar.muli v13 c1_i32_71
  let v96 : BitVec 32 := Scalar.addi c0_i32_72 v95
  v96.toNat
def k0_off4 (d0 : Dev nD) (c0_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_76 : BitVec 32 := 256#32
  let v103 : BitVec 32 := Scalar.muli v13 c256_i32_76
  let v104 : BitVec 32 := Scalar.addi v103 c0_i32_77
  let c0_i32_82 : BitVec 32 := 0#32
  ![v104.toNat, 0]
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_86 : BitVec 32 := 1#32
  let v111 : BitVec 32 := Scalar.muli v24 c1_i32_86
  let v112 : BitVec 32 := Scalar.addi c0_i32_87 v111
  v112.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_100 : BitVec 32 := 1#32
  let v127 : BitVec 32 := Scalar.muli v24 c1_i32_100
  let v128 : BitVec 32 := Scalar.addi c0_i32_101 v127
  v128.toNat
def k0_off5 (d0 : Dev nD) (c1_i32_6 : BitVec 32) (c128_i32_105 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_104 : BitVec 32 := 256#32
  let v135 : BitVec 32 := Scalar.muli v24 c256_i32_104
  let v136 : BitVec 32 := Scalar.addi v135 c128_i32_105
  let c0_i32_110 : BitVec 32 := 0#32
  ![v136.toNat, 0]
def k0_off5_at (r : Fin 6) : BitVec 32 × BitVec 32 :=
  if r.val < 3 then
    if r.val < 1 then
      (1#32, 128#32)
    else
      if r.val < 2 then
        (1#32, 192#32)
      else
        (2#32, 0#32)
  else
    if r.val < 4 then
      (2#32, 64#32)
    else
      if r.val < 5 then
        (2#32, 128#32)
      else
        (2#32, 192#32)
def k0_dev11 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_114 : BitVec 32 := 1#32
  let v143 : BitVec 32 := Scalar.muli v13 c1_i32_114
  let v144 : BitVec 32 := Scalar.addi c0_i32_115 v143
  v144.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v159 : BitVec 32 := Scalar.muli v13 c1_i32_128
  let v160 : BitVec 32 := Scalar.addi c0_i32_129 v159
  v160.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_132 : BitVec 32 := 256#32
  let v167 : BitVec 32 := Scalar.muli v13 c256_i32_132
  let c128_i32_133 : BitVec 32 := 128#32
  let v168 : BitVec 32 := Scalar.addi v167 c128_i32_133
  let c0_i32_138 : BitVec 32 := 0#32
  ![v168.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_141 : BitVec 32 := 256#32
  let v175 : BitVec 32 := Scalar.muli v24 c256_i32_141
  let c0_i32_142 : BitVec 32 := 0#32
  let v176 : BitVec 32 := Scalar.addi v175 c0_i32_142
  let c0_i32_147 : BitVec 32 := 0#32
  ![v176.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Regions.lean ====
/- The ring of four devices, the pieces the kernel moves, and what the gathered array holds.

The output of a device has 1024 rows: sixteen QUARTERS of 64 rows, four per device of the mesh. Every transfer of the
kernel moves one or two consecutive quarters (the local copy: four), so every set of elements the proof speaks of is
"the rows whose quarter lies in `A`" for a finite set `A` of numbers: disjointness and covering are then decided on
those numbers. A piece is named by the number of the transfer that brings it (0 to 9), or 10 for a device's own rows. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device after `c`: the kernel's right neighbour. -/
def nxt (c : Dev nD) : Dev nD := c + 1
/-- The device before `c`: the kernel's left neighbour. -/
def prv (c : Dev nD) : Dev nD := c + 3
/-- The device across the ring. -/
def opp (c : Dev nD) : Dev nD := c + 2

theorem prv_nxt (c : Dev nD) : prv (nxt c) = c := by revert c; decide
theorem nxt_prv (c : Dev nD) : nxt (prv c) = c := by revert c; decide

/-- The ring's rotation. -/
def ring : Dev nD ≃ Dev nD := ⟨nxt, prv, prv_nxt, nxt_prv⟩

/-- The device transfer `k` is addressed to: the right neighbour for the transfers 0, 1, 2, 6, 7, the left one for the others. -/
def tgt (k : ℕ) (c : Dev nD) : Dev nD := if k = 0 ∨ k = 1 ∨ k = 2 ∨ k = 6 ∨ k = 7 then nxt c else prv c
/-- The device transfer `k` into `c` comes from. -/
def org (k : ℕ) (c : Dev nD) : Dev nD := if k = 0 ∨ k = 1 ∨ k = 2 ∨ k = 6 ∨ k = 7 then prv c else nxt c

theorem org_tgt (k : ℕ) (c : Dev nD) : org k (tgt k c) = c := by
  unfold org tgt; split
  · exact prv_nxt c
  · exact nxt_prv c
theorem tgt_org (k : ℕ) (c : Dev nD) : tgt k (org k c) = c := by
  unfold org tgt; split
  · exact nxt_prv c
  · exact prv_nxt c

/-- Addressing by transfer `k`, as a permutation of the devices. -/
def tgtE (k : ℕ) : Dev nD ≃ Dev nD := ⟨tgt k, org k, org_tgt k, tgt_org k⟩

/-! ## The pieces -/

/-- Whose rows piece `k` of device `c`'s output are: piece 10 its own, pieces 0 to 5 a neighbour's, 6 to 9 the opposite device's. -/
def blk (k : ℕ) (c : Dev nD) : Dev nD := if k = 10 then c else if 6 ≤ k then opp c else org k c
/-- The first quarter of piece `k` inside that device's rows. -/
def qlo : ℕ → ℕ
  | 1 => 1 | 2 => 2 | 3 => 2 | 4 => 3 | 7 => 1 | 8 => 2 | 9 => 3 | _ => 0
/-- How many quarters piece `k` has. -/
def qn : ℕ → ℕ
  | 2 => 2 | 5 => 2 | 10 => 4 | _ => 1
/-- The first quarter of piece `k` of device `c`'s output. -/
def lo (k : ℕ) (c : Dev nD) : ℕ := 4 * (blk k c).val + qlo k
/-- The quarters of piece `k` of device `c`'s output. -/
def land (k : ℕ) (c : Dev nD) : Finset ℕ := Finset.Ico (lo k c) (lo k c + qn k)
/-- The quarters of a device's own block that transfer `k < 6` sends. -/
def part (k : ℕ) : Finset ℕ := Finset.Ico (qlo k) (qlo k + qn k)

/-- The pieces of an output do not meet, -/
theorem land_disjoint (c : Dev nD) : ∀ k k' : Fin 11, k ≠ k' → Disjoint (land k c) (land k' c) := by
  revert c; decide +kernel
/-- and are all of it. -/
theorem land_cover (c : Dev nD) : (Finset.univ.biUnion fun k : Fin 11 => land k c) = Finset.range 16 := by
  revert c; decide +kernel

/-! ## The two buffers -/

/-- The input block, staged. -/
abbrev xM : Memref sig .tc .vmem S256x256 .f32 := Memref.whole cc0_stg0_0
/-- The output, staged. -/
abbrev oM : Memref sig .tc .vmem S1024x256 .f32 := Memref.whole cc0_stg1_0

/-- An element of a rank-two array whose row's quarter lies in `A`. -/
def rows {s : Shape} (h : 0 < s.rank) (A : Finset ℕ) : Finset s.Idx := Finset.univ.filter fun i => (i ⟨0, h⟩).val / 64 ∈ A

/-- The elements of the input block in the quarters `A`. -/
def xq (A : Finset ℕ) : Finset (S256x256.Idx) := rows (by decide) A
/-- The elements of the output in the quarters `A`. -/
def oq (A : Finset ℕ) : Finset (S1024x256.Idx) := rows (by decide) A

theorem rows_disjoint {s : Shape} (h : 0 < s.rank) {A B : Finset ℕ} (hAB : Disjoint A B) : Disjoint (rows (s := s) h A) (rows h B) := by
  rw [Finset.disjoint_left]
  intro i hi hj
  exact Finset.disjoint_left.mp hAB (Finset.mem_filter.mp hi).2 (Finset.mem_filter.mp hj).2

theorem rows_union {s : Shape} (h : 0 < s.rank) (A B : Finset ℕ) : rows (s := s) h (A ∪ B) = rows h A ∪ rows h B := by
  ext i; simp [rows]

theorem rows_biUnion {s : Shape} (h : 0 < s.rank) {T : Type} (S : Finset T) (K : T → Finset ℕ) :
    rows (s := s) h (S.biUnion K) = S.biUnion fun t => rows h (K t) := by
  ext i; simp [rows]

theorem xq_all : xq (Finset.range 4) = Finset.univ := by
  ext i; simp only [xq, rows, Finset.mem_filter, Finset.mem_univ, true_and, Finset.mem_range, iff_true]
  have h : (i (0 : Fin 2)).val < 256 := (i (0 : Fin 2)).isLt
  show (i (0 : Fin 2)).val / 64 < _
  omega
theorem oq_all : oq (Finset.range 16) = Finset.univ := by
  ext i; simp only [oq, rows, Finset.mem_filter, Finset.mem_univ, true_and, Finset.mem_range, iff_true]
  have h : (i (0 : Fin 2)).val < 1024 := (i (0 : Fin 2)).isLt
  show (i (0 : Fin 2)).val / 64 < _
  omega

/-- A band of `n` rows from `o` at full width, as a slice of a rank-two array of 256 columns: its elements are those
    whose row lies there. -/
theorem mem_band {d : Fin 2 → ℕ} (hd : d 1 = 256) {off sz : Fin 2 → ℕ} {o n : ℕ} (hoff : off = ![o, 0]) (hsz : sz = ![n, 256])
    (inb : ∀ a, off a + sz a ≤ (⟨2, d⟩ : Shape).size a) (i : (⟨2, d⟩ : Shape).Idx) :
    i ∈ (Rect.unit (s := ⟨2, d⟩) off sz inb).set ↔ o ≤ (i 0).val ∧ (i 0).val < o + n := by
  subst hoff hsz
  rw [LoadRect.mem_set]
  constructor
  · intro h
    obtain ⟨j, hj, hi⟩ := h 0
    have hj' : j < n := hj
    have hi' : (i 0).val = o + 1 * j := hi
    omega
  · intro h a
    match a with
    | ⟨0, _⟩ => exact ⟨(i 0).val - o, (show (i 0).val - o < n by omega), (show (i 0).val = o + 1 * ((i 0).val - o) by omega)⟩
    | ⟨1, _⟩ =>
      have hlt : (i 1).val < d 1 := (i 1).isLt
      exact ⟨(i 1).val, (show (i 1).val < 256 by omega), (show (i 1).val = 0 + 1 * (i 1).val by omega)⟩

/-- The elements under a slice of the output that is `n` quarters from quarter `q` on. -/
theorem o_set {off sz : Fin 2 → ℕ} {q n : ℕ} (hoff : off = ![64 * q, 0]) (hsz : sz = ![64 * n, 256])
    (inb : ∀ a, off a + sz a ≤ S1024x256.size a) (h) :
    (oM.slice (Rect.unit (s := S1024x256) off sz inb) h).view.set = oq (Finset.Ico q (q + n)) := by
  refine (View.set_slice_whole cc0_stg1_0 _).trans ?_
  ext i
  refine (mem_band (d := ![1024, 256]) rfl hoff hsz inb i).trans ?_
  simp only [oq, rows, Finset.mem_filter, Finset.mem_univ, true_and, Finset.mem_Ico]
  change _ ↔ q ≤ (i 0).val / 64 ∧ (i 0).val / 64 < q + n
  omega

/-- The elements under a slice of the input block that is `n` quarters from quarter `q` on. -/
theorem x_set {off sz : Fin 2 → ℕ} {q n : ℕ} (hoff : off = ![64 * q, 0]) (hsz : sz = ![64 * n, 256])
    (inb : ∀ a, off a + sz a ≤ S256x256.size a) (h) :
    (xM.slice (Rect.unit (s := S256x256) off sz inb) h).view.set = xq (Finset.Ico q (q + n)) := by
  refine (View.set_slice_whole cc0_stg0_0 _).trans ?_
  ext i
  refine (mem_band (d := ![256, 256]) rfl hoff hsz inb i).trans ?_
  simp only [xq, rows, Finset.mem_filter, Finset.mem_univ, true_and, Finset.mem_Ico]
  change _ ↔ q ≤ (i 0).val / 64 ∧ (i 0).val / 64 < q + n
  omega

/-! ## The gathered array -/

/-- The row and column of an element of the gathered array, inside the block that holds it. -/
def inBlock (i : S1024x256.Idx) : S256x256.Idx := fun a =>
  match a with
  | ⟨0, _⟩ => ⟨(i 0).val % 256, Nat.mod_lt _ (by decide)⟩
  | ⟨1, _⟩ => ⟨(i 1).val, (i 1).isLt⟩

/-- Which device's block holds an element of the gathered array. -/
def owner (i : S1024x256.Idx) : Dev nD :=
  ⟨(i 0).val / 256, by have h : (i 0).val < 1024 := (i 0).isLt; show (i 0).val / 256 < 4; omega⟩

/-- The blocks `X` of the four devices, stacked along the rows. -/
def stack {α : Type} (X : Dev nD → S256x256.Idx → α) (i : S1024x256.Idx) : α := X (owner i) (inBlock i)

/-- An element of the stack `256 · d + r` rows down is the element `r` rows down in block `d`. -/
theorem stack_at {α : Type} (X : Dev nD → S256x256.Idx → α) (d : Dev nD) (j : S256x256.Idx) (i : S1024x256.Idx)
    (h0 : (i 0).val = 256 * d.val + (j 0).val) (h1 : (i 1).val = (j 1).val) : stack X i = X d j := by
  have hj : (j 0).val < 256 := (j 0).isLt
  have ho : owner i = d := Fin.ext (show (i 0).val / 256 = d.val by omega)
  have hb : inBlock i = j := by
    funext a
    match a with
    | ⟨0, _⟩ => exact Fin.ext (show (i 0).val % 256 = (j 0).val by omega)
    | ⟨1, _⟩ => exact Fin.ext h1
  unfold stack; rw [ho, hb]

section Landing
variable (X : Dev nD → S256x256.Idx → Elt F .f32)

/-- A band of block `d` copied to the same rows of the output `256 · d` rows down leaves there what the stack holds. -/
theorem land_x (d : Dev nD) {offx off sz : Fin 2 → ℕ} {q n : ℕ} (hoffx : offx = ![64 * q, 0])
    (hoff : off = ![64 * (4 * d.val + q), 0]) (hsz : sz = ![64 * n, 256])
    (inbx : ∀ a, offx a + sz a ≤ S256x256.size a) (hx) (inb : ∀ a, off a + sz a ≤ S1024x256.size a) (h)
    (fd : S1024x256.Idx → Elt F .f32) :
    ∀ i ∈ (oM.slice (Rect.unit (s := S1024x256) off sz inb) h).view.set,
      ((oM.slice (Rect.unit (s := S1024x256) off sz inb) h).view.write (Elt F) fd
        ((xM.slice (Rect.unit (s := S256x256) offx sz inbx) hx).view.read (Elt F) (X d)) Finset.univ) i = stack X i := by
  intro i hi
  obtain ⟨y, -, rfl⟩ := Finset.mem_map.mp hi
  refine (View.write_emb_of_mem _ _ (Finset.mem_univ y)).trans ?_
  refine (stack_at X d ((xM.slice (Rect.unit (s := S256x256) offx sz inbx) hx).view.emb y) _ ?_ ?_).symm
  · subst hoff hoffx
    show 64 * (4 * d.val + q) + 1 * (y 0).val = 256 * d.val + (64 * q + 1 * (y 0).val)
    omega
  · subst hoff hoffx; rfl

/-- The same for the whole of block `d`. -/
theorem land_all (d : Dev nD) {off : Fin 2 → ℕ} (hoff : off = ![256 * d.val, 0])
    (inb : ∀ a, off a + S256x256.size a ≤ S1024x256.size a) (h) (fd : S1024x256.Idx → Elt F .f32) :
    ∀ i ∈ (oM.slice (Rect.unit (s := S1024x256) off S256x256.size inb) h).view.set,
      ((oM.slice (Rect.unit (s := S1024x256) off S256x256.size inb) h).view.write (Elt F) fd
        (xM.view.read (Elt F) (X d)) Finset.univ) i = stack X i := by
  intro i hi
  obtain ⟨y, -, rfl⟩ := Finset.mem_map.mp hi
  refine (View.write_emb_of_mem _ _ (Finset.mem_univ y)).trans ?_
  refine (stack_at X d y _ ?_ ?_).symm
  · subst hoff
    show 256 * d.val + 1 * (y 0).val = 256 * d.val + (y 0).val
    omega
  · subst hoff
    show 0 + 1 * (y 1).val = (y 1).val
    omega

/-- A band of an output that holds the stack there, copied to the same rows of another output, leaves there what the
    stack holds. -/
theorem land_o {off sz : Fin 2 → ℕ} (inb : ∀ a, off a + sz a ≤ S1024x256.size a) (h) (fd : S1024x256.Idx → Elt F .f32) :
    ∀ i ∈ (oM.slice (Rect.unit (s := S1024x256) off sz inb) h).view.set,
      ((oM.slice (Rect.unit (s := S1024x256) off sz inb) h).view.write (Elt F) fd
        ((oM.slice (Rect.unit (s := S1024x256) off sz inb) h).view.read (Elt F) (stack X)) Finset.univ) i = stack X i := by
  intro i hi
  obtain ⟨y, -, rfl⟩ := Finset.mem_map.mp hi
  exact (View.write_emb_of_mem _ _ (Finset.mem_univ y)).trans rfl

end Landing

/-! ## What the kernel's address computations name -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = tgt 0 c := by revert c; decide +kernel
theorem dev4_eq (c : Dev nD) : (⟨k0_dev4 c, k0_dev4_lt c⟩ : Dev nD) = tgt 1 c := by revert c; decide +kernel
theorem dev5_eq (c : Dev nD) : (⟨k0_dev5 c, k0_dev5_lt c⟩ : Dev nD) = tgt 2 c := by revert c; decide +kernel
theorem dev6_eq (c : Dev nD) : (⟨k0_dev6 c, k0_dev6_lt c⟩ : Dev nD) = tgt 3 c := by revert c; decide +kernel
theorem dev7_eq (c : Dev nD) : (⟨k0_dev7 c, k0_dev7_lt c⟩ : Dev nD) = tgt 4 c := by revert c; decide +kernel
theorem dev8_eq (c : Dev nD) : (⟨k0_dev8 c, k0_dev8_lt c⟩ : Dev nD) = tgt 5 c := by revert c; decide +kernel
theorem dev9_eq (c : Dev nD) : (⟨k0_dev9 c, k0_dev9_lt c⟩ : Dev nD) = tgt 6 c := by revert c; decide +kernel
theorem dev10_eq (c : Dev nD) : (⟨k0_dev10 c, k0_dev10_lt c⟩ : Dev nD) = tgt 7 c := by revert c; decide +kernel
theorem dev11_eq (c : Dev nD) : (⟨k0_dev11 c, k0_dev11_lt c⟩ : Dev nD) = tgt 8 c := by revert c; decide +kernel
theorem dev12_eq (c : Dev nD) : (⟨k0_dev12 c, k0_dev12_lt c⟩ : Dev nD) = tgt 9 c := by revert c; decide +kernel

/-- Where transfer `k < 6` of device `c` lands: at the rows of `c`'s own block it sends. -/
theorem lo_tgt (c : Dev nD) : ∀ k : Fin 6, lo k (tgt k c) = 4 * c.val + qlo k := by revert c; decide +kernel

theorem off2_at (c : Dev nD) (r : Fin 4) : k0_off2 c (BitVec.ofNat 32 (64 * r.val)) = ![64 * (4 * c.val + r.val), 0] :=
  (k0_off2_eq c r).trans (congrArg (fun n => (![n, 0] : Fin 2 → ℕ)) (by omega))
theorem off3_at (c : Dev nD) (r : Fin 2) : k0_off3 c (BitVec.ofNat 32 (128 * r.val)) = ![64 * (4 * c.val + 2 * r.val), 0] :=
  (k0_off3_eq c r).trans (congrArg (fun n => (![n, 0] : Fin 2 → ℕ)) (by omega))

/-- The first forward (transfer 6) reads the rows piece 0 brought and writes the same rows, piece 6 of its target; -/
theorem off4_0 (c : Dev nD) : k0_off4 c 0#32 = ![64 * lo 0 c, 0] := by revert c; decide +kernel
/-- the second (transfer 7) those of piece 1; -/
theorem off4_1 (c : Dev nD) : k0_off4 c 64#32 = ![64 * lo 1 c, 0] := by revert c; decide +kernel
/-- the third (transfer 8) those of piece 3; -/
theorem off5_3 (c : Dev nD) : k0_off5 c 1#32 128#32 = ![64 * lo 3 c, 0] := by revert c; decide +kernel
/-- the fourth (transfer 9) those of piece 4. -/
theorem off5_4 (c : Dev nD) : k0_off5 c 1#32 192#32 = ![64 * lo 4 c, 0] := by revert c; decide +kernel

/-- The piece a forward (transfers 6 to 9) reads: 0, 1, 3, 4. -/
def fwd : ℕ → ℕ
  | 6 => 0 | 7 => 1 | 8 => 3 | _ => 4
theorem lo_fwd (c : Dev nD) : ∀ k : Fin 10, 6 ≤ k.val → lo k (tgt k c) = lo (fwd k) c ∧ qn k = qn (fwd k) := by
  revert c; decide +kernel

end Cert.Gather

end
-- ==== Proof.Protocol.lean ====
/- The protocol of the gather: its cells, who pays what into each, what each device owes, and one rule per kind of step.

A device's semaphores are the barrier semaphore and 21 transfer semaphores: one per transfer at the sending side
(0 to 9), one per transfer at the receiving side (10 to 19), one for the local copy (20). Each is used for exactly one
round. What a raise hands over:

* a barrier is raised by both neighbours, each handing over the pieces of ITS output the barrier's owner will write;
* the receiving semaphore of transfer `k` is raised by the transfer, handing over piece `k`, holding what the gathered
  array holds there;
* the sending semaphore gives back what the transfer read: part of the input block, or the piece forwarded;
* the copy's semaphore gives the device's own rows, and back the share of the input block the copy read. -/
module

public import proofs.«01_k».proof.Proof.Regions

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Where the ghost state lives -/

abbrev UB := URounds (GSem nD τ sig) Bool
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- The barrier semaphore. -/
abbrev barS : Sem sig := (SemArray.scalar (sig.barrier 0 rfl) : Sems sig S_).sem
/-- The transfer semaphore of a number. -/
def ds (n : ℕ) : DmaSem sig := ⟨n % 23, Nat.mod_lt _ (by decide)⟩

/-- A device's barrier cell. -/
abbrev bar (c : Dev nD) : GSem nD τ sig := ((c : Thread nD τ), .reg barS)
/-- A device's transfer cell: `k` the sending one of transfer `k`, `10 + k` its receiving one, 20 the local copy's. -/
abbrev cel (c : Dev nD) (j : ℕ) : GSem nD τ sig := ((c : Thread nD τ), .dma (ds (2 + j)))

theorem ds_val {n : ℕ} (h : n < 23) : (ds n).val = n := Nat.mod_eq_of_lt h

theorem cel_inj {c d : Dev nD} {i j : ℕ} (hi : i < 21) (hj : j < 21) (h : cel c i = cel d j) : c = d ∧ i = j := by
  refine ⟨congrArg (fun g : GSem nD τ sig => g.1.1) h, ?_⟩
  have h' : ds (2 + i) = ds (2 + j) := SemLoc.dma.inj (congrArg Prod.snd h)
  have h'' := congrArg Fin.val h'
  rw [ds_val (by omega), ds_val (by omega)] at h''
  omega

theorem bar_inj {c d : Dev nD} (h : bar c = bar d) : c = d := congrArg (fun g : GSem nD τ sig => g.1.1) h

theorem cel_ne_bar {c d : Dev nD} {j : ℕ} : cel c j ≠ bar d := fun h => by cases congrArg Prod.snd h

/-! ## The amounts -/

/-- What a transfer of 64, 128 or 256 rows adds to its semaphores. -/
def credit (n : ℕ) : ℕ :=
  if n = 2 then (oM.slice (Rect.unit (s := S1024x256) ![0, 0] S128x256.size (by decide)) (fun _ => rfl)).view.dmaCredit
  else if n = 4 then (oM.slice (Rect.unit (s := S1024x256) ![0, 0] S256x256.size (by decide)) (fun _ => rfl)).view.dmaCredit
  else (oM.slice (Rect.unit (s := S1024x256) ![0, 0] S64x256.size (by decide)) (fun _ => rfl)).view.dmaCredit

theorem credit_pos (n : ℕ) : 0 < credit n := by
  unfold credit
  split
  · exact View.dmaCredit_pos _ (by decide)
  · split
    · exact View.dmaCredit_pos _ (by decide)
    · exact View.dmaCredit_pos _ (by decide)

/-- A band of `n` quarters of the output has their credit, -/
theorem credit_o {off sz : Fin 2 → ℕ} {n : ℕ} (hn : n = 1 ∨ n = 2 ∨ n = 4) (hsz : sz = ![64 * n, 256])
    (inb : ∀ a, off a + sz a ≤ S1024x256.size a) (h) :
    (oM.slice (Rect.unit (s := S1024x256) off sz inb) h).view.dmaCredit = credit n := by
  subst hsz
  rcases hn with rfl | rfl | rfl
  · exact ((if_neg (by decide)).trans (if_neg (by decide))).symm
  · exact (if_pos rfl).symm
  · exact ((if_neg (by decide)).trans (if_pos rfl)).symm
/-- and so has one of the input block. -/
theorem credit_x {off sz : Fin 2 → ℕ} {n : ℕ} (hn : n = 1 ∨ n = 2 ∨ n = 4) (hsz : sz = ![64 * n, 256])
    (inb : ∀ a, off a + sz a ≤ S256x256.size a) (h) :
    (xM.slice (Rect.unit (s := S256x256) off sz inb) h).view.dmaCredit = credit n := by
  subst hsz
  rcases hn with rfl | rfl | rfl
  · exact ((if_neg (by decide)).trans (if_neg (by decide))).symm
  · exact (if_pos rfl).symm
  · exact ((if_neg (by decide)).trans (if_pos rfl)).symm

/-- The transfer a transfer cell belongs to. -/
def slot (j : ℕ) : ℕ := if j < 10 then j else j - 10
/-- What is added to a transfer cell. -/
def amt (j : ℕ) : ℕ := credit (qn (slot j))

/-! ## What is handed over -/

section Payloads
variable (X : Dev nD → S256x256.Idx → Elt F .f32)

/-- A share of the quarters `A` of the input block of device `c`, at its contents. -/
def xP (c : Dev nD) (A : Finset ℕ) (q : PosShare TreeShare) : sProp 𝕄 := xM.view.loc (c : Thread nD τ) ↦[xq A]{q} X c
/-- The quarters `A` of the output of device `c`, at the contents `f`. -/
def oP (c : Dev nD) (A : Finset ℕ) (f : S1024x256.Idx → Elt F .f32) : sProp 𝕄 := oM.view.loc (c : Thread nD τ) ↦[oq A]{fullShare} f
/-- Piece `k` of the output of device `c`, whatever it holds. -/
def hole (c : Dev nD) (k : ℕ) : sProp 𝕄 := iprop(∃ f, oP c (land k c) f)
/-- Piece `k` of the output of device `c`, gathered. -/
def got (c : Dev nD) (k : ℕ) : sProp 𝕄 := oP c (land k c) (stack X)

/-- The share of the input block a transfer reads under: the two directions have one each, the local copy a third. -/
def shr (k : ℕ) : PosShare TreeShare := if k < 3 then fullShare.right.left else fullShare.right.right

/-- What the sending cell of transfer `k` gives back. -/
def sndPay (c : Dev nD) (k : ℕ) : sProp 𝕄 := if k < 6 then xP X c (part k) (shr k) else got X c (fwd k)
/-- What the local copy's cell gives. -/
def cpyPay (c : Dev nD) : sProp 𝕄 := iprop(got X c 10 ∗ xP X c (Finset.range 4) fullShare.left)
/-- What transfer cell `j` gives. -/
def pay (c : Dev nD) (j : ℕ) : sProp 𝕄 := if j < 10 then sndPay X c j else if j = 20 then cpyPay X c else got X c (j - 10)

/-- What the barrier of `d` gives: from its right neighbour the pieces there that `d`'s rightward transfers write, from
    its left neighbour those its leftward ones write. -/
def barPay (d : Dev nD) : Bool → sProp 𝕄
  | false => iprop(hole (nxt d) 0 ∗ hole (nxt d) 1 ∗ hole (nxt d) 2 ∗ hole (nxt d) 6 ∗ hole (nxt d) 7)
  | true => iprop(hole (prv d) 3 ∗ hole (prv d) 4 ∗ hole (prv d) 5 ∗ hole (prv d) 8 ∗ hole (prv d) 9)

instance xP_storable (c A q) : BI.Storable (upEmb : UEmb _ 𝕄) (xP X c A q) := by unfold xP; infer_instance
omit [FloatOps F] in
instance oP_storable (c A f) : BI.Storable (upEmb : UEmb _ 𝕄) (oP (F := F) c A f) := by unfold oP; infer_instance
omit [FloatOps F] in
instance hole_storable (c k) : BI.Storable (upEmb : UEmb _ 𝕄) (hole (F := F) c k) := by unfold hole; infer_instance
instance got_storable (c k) : BI.Storable (upEmb : UEmb _ 𝕄) (got X c k) := by unfold got; infer_instance
instance pay_storable (c j) : BI.Storable (upEmb : UEmb _ 𝕄) (pay X c j) := by
  unfold pay sndPay cpyPay; (repeat' split) <;> infer_instance
omit [FloatOps F] in
instance barPay_storable (d b) : BI.Storable (upEmb : UEmb _ 𝕄) (barPay (F := F) d b) := by
  cases b <;> unfold barPay <;> infer_instance

/-! ## The schedule -/

/-- Who raises a semaphore in its one round: a barrier both neighbours, a transfer semaphore its transfer. -/
def dutiesOf : SemLoc sig → Finset Bool
  | .reg _ => Finset.univ
  | .dma q => if 2 ≤ q.val then {false} else ∅

/-- The one round of every cell. -/
def rd : Rounds.Schedule (GSem nD τ sig) Bool 𝕄 where
  duties g r := if r = 0 ∧ g.1.2 = .tc then dutiesOf g.2 else ∅
  unitless _ := False
  amount g _ _ := match g.2 with
    | .reg _ => 1
    | .dma q => amt (q.val - 2)
  payload g _ b := match g.2 with
    | .reg _ => barPay g.1.1 b
    | .dma q => pay X g.1.1 (q.val - 2)
  amount_pos g _ _ _ := by
    rcases g with ⟨t, s | q⟩
    · exact Nat.one_pos
    · exact credit_pos _

instance rd_payload_storable (g : GSem nD τ sig) (r : ℕ) (b : Bool) : BI.Storable (upEmb : UEmb _ 𝕄) ((rd X).payload g r b) := by
  rcases g with ⟨t, s | q⟩
  · exact barPay_storable t.1 b
  · exact pay_storable X t.1 (q.val - 2)

section Sched
variable (c : Dev nD)

theorem duties_bar : (rd X).duties (bar c) 0 = Finset.univ := by dsimp only [rd]; exact if_pos ⟨rfl, rfl⟩
theorem duties_cel {j : ℕ} (hj : j < 21) : (rd X).duties (cel c j) 0 = {false} := by
  dsimp only [rd]
  refine (if_pos ⟨rfl, rfl⟩).trans (if_pos ?_)
  rw [ds_val (by omega)]; omega
theorem mem_bar (b : Bool) : b ∈ (rd X).duties (bar c) 0 := by rw [duties_bar]; exact Finset.mem_univ _
theorem mem_cel {j : ℕ} (hj : j < 21) : false ∈ (rd X).duties (cel c j) 0 := by rw [duties_cel X c hj]; exact Finset.mem_singleton_self _
theorem duties_later (g : GSem nD τ sig) : ∀ r, 1 ≤ r → (rd X).duties g r = ∅ := fun r hr => if_neg fun h => by omega

theorem amount_bar (b : Bool) : (rd X).amount (bar c) 0 b = 1 := rfl
theorem amount_cel {j : ℕ} (hj : j < 21) (b : Bool) : (rd X).amount (cel c j) 0 b = amt j := by
  show amt ((ds (2 + j)).val - 2) = amt j
  rw [ds_val (by omega), Nat.add_sub_cancel_left]

theorem payload_bar (b : Bool) : (rd X).payload (bar c) 0 b = barPay c b := rfl
theorem payload_cel {j : ℕ} (hj : j < 21) (b : Bool) : (rd X).payload (cel c j) 0 b = pay X c j := by
  show pay X c ((ds (2 + j)).val - 2) = pay X c j
  rw [ds_val (by omega), Nat.add_sub_cancel_left]

theorem expect_bar : (rd X).expect (bar c) 0 = 2 := by
  unfold Schedule.expect Schedule.amountOf; rw [duties_bar]; rfl
theorem expect_cel {j : ℕ} (hj : j < 21) : (rd X).expect (cel c j) 0 = amt j := by
  unfold Schedule.expect Schedule.amountOf; rw [duties_cel X c hj, Finset.sum_singleton, amount_cel X c hj]

theorem rest_bar : bigSep ((rd X).duties (bar c) 0 \ ∅) (fun b => (rd X).payload (bar c) 0 b) = iprop(barPay c false ∗ barPay c true) := by
  rw [Finset.sdiff_empty, duties_bar, bigSep_univ_eq_bigSepL [false, true] (by decide) (by decide), bigSepL_cons_cons, bigSepL_singleton]
  rfl
theorem rest_cel {j : ℕ} (hj : j < 21) :
    bigSep ((rd X).duties (cel c j) 0 \ ∅) (fun b => (rd X).payload (cel c j) 0 b) = pay X c j := by
  rw [Finset.sdiff_empty, duties_cel X c hj, bigSep_singleton, payload_cel X c hj]

end Sched

end Payloads

/-! ## What a device owes; the levels -/

/-- What device `c` owes before its last `j` transfers: each of them its receiving cell's amount, at its target. -/
def ow (c : Dev nD) : ℕ → CellTallies nD τ sig Unit
  | 0 => 0
  | j + 1 => ow c j + tallyAt (cel (tgt (9 - j) c) (10 + (9 - j))) () (amt (10 + (9 - j)))

/-- At launch: all ten transfers, and a unit to the barrier of each neighbour. -/
def O₀ (c : Dev nD) : CellTallies nD τ sig Unit := ow c 10 + tallyAt (bar (nxt c)) () 1 + tallyAt (bar (prv c)) () 1

theorem ow_step (c : Dev nD) {k j : ℕ} (h : k + j = 9) : ow c (j + 1) = ow c j + tallyAt (cel (tgt k c) (10 + k)) () (amt (10 + k)) := by
  obtain rfl : k = 9 - j := by omega
  rfl

/-- What is owed on account of transfers is owed to receiving cells of the transfers left. -/
theorem ow_pos (c : Dev nD) {g : GSem nD τ sig} {u : Unit} : ∀ {j : ℕ}, 0 < ow c j g u → ∃ s, 10 - j ≤ s ∧ s < 10 ∧ g = cel (tgt s c) (10 + s)
  | 0, h => absurd h (Nat.lt_irrefl 0)
  | j + 1, h => by
    rw [ow, Pi.add_apply, Finsupp.add_apply, tallyAt_apply] at h
    by_cases hg : g = cel (tgt (9 - j) c) (10 + (9 - j)) ∧ u = ()
    · exact ⟨9 - j, by omega, by omega, hg.1⟩
    · rw [if_neg hg] at h
      obtain ⟨s, h1, h2, h3⟩ := ow_pos c (j := j) h
      exact ⟨s, by omega, h2, h3⟩

def L (g : GSem nD τ sig) : Finset Unit := if g.1.2 = .tc then {()} else ∅
/-- The level of a transfer semaphore: the first six receiving ones below the last four, which are paid by forwards. -/
def lvD (n : ℕ) : ℕ := if 12 ≤ n ∧ n < 18 then 2 else if 18 ≤ n ∧ n < 22 then 3 else 0
/-- Barriers below receiving cells, everything else at the bottom. -/
def lv (g : GSem nD τ sig) (_ : Unit) : ℕ := match g.2 with
  | .reg _ => 1
  | .dma q => lvD q.val

theorem L_of_ne (g : GSem nD τ sig) (h : g.1.2 ≠ .tc) : L g = ∅ := if_neg h
theorem L_tc (c : Dev nD) (sm : SemLoc sig) : L ((c : Thread nD τ), sm) = {()} := if_pos rfl

theorem lv_cel (c : Dev nD) {j : ℕ} (hj : j < 21) : lv (cel c j) () = lvD (2 + j) := by
  show lvD (ds (2 + j)).val = _
  rw [ds_val (by omega)]

/-- A device may wait at a semaphore whose level is below those of all the transfers it still owes. -/
theorem mayWait_ow (c : Dev nD) (sm : SemLoc sig) (j : ℕ)
    (h : ∀ s : Fin 10, 10 - j ≤ s.val → lv ((c : Thread nD τ), sm) () < lvD (2 + (10 + s.val))) :
    (levAts L lv : sProp 𝕄) ⊢ MayWait (c : Thread nD τ) sm () (ow c j) :=
  MayOwe.of_cut (L := L) (lev := lv) (lv ((c : Thread nD τ), sm) ())
    (fun p hp => by rw [Finset.mem_singleton.mp hp, L_tc]; exact Finset.mem_singleton_self _)
    (fun g u hg => by obtain ⟨s, _, _, rfl⟩ := ow_pos c hg; rw [L_tc]; exact Finset.mem_singleton_self _)
    (fun p hp => by rw [Finset.mem_singleton.mp hp])
    (fun g u hg => by
      obtain ⟨s, h1, h2, rfl⟩ := ow_pos c hg
      rw [lv_cel _ (by omega)]; exact h ⟨s, h2⟩ h1)

theorem O₀_pos {c : Dev nD} {g : GSem nD τ sig} {u : Unit} (h : 0 < O₀ c g u) :
    (∃ s, s < 10 ∧ g = cel (tgt s c) (10 + s)) ∨ g = bar (nxt c) ∨ g = bar (prv c) := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  change 0 < ow c 10 g u at h
  obtain ⟨s, _, h2, h3⟩ := ow_pos c h
  exact hn.1 ⟨s, h2, h3⟩

/-- A device may wait for its staging transfers, owing everything it owes at launch, or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have hlv : lv ((c : Thread nD τ), .dma q) () = 0 := by
    show lvD q.val = 0
    unfold lvD; rw [if_neg (by omega), if_neg (by omega)]
  rcases hO with rfl | rfl
  · refine MayOwe.of_cut (L := L) (lev := lv) 0 (fun p hp => by rw [Finset.mem_singleton.mp hp, L_tc]; exact Finset.mem_singleton_self _)
      (fun g u hg => by rcases O₀_pos hg with ⟨s, _, rfl⟩ | rfl | rfl <;> exact Finset.mem_singleton_self _)
      (fun p hp => by rw [Finset.mem_singleton.mp hp]; exact le_of_eq hlv)
      (fun g u hg => by
        rcases O₀_pos hg with ⟨s, hs, rfl⟩ | rfl | rfl
        · rw [lv_cel _ (by omega)]
          have : ∀ s : Fin 10, 0 < lvD (2 + (10 + s.val)) := by decide
          exact this ⟨s, hs⟩
        · exact Nat.one_pos
        · exact Nat.one_pos)
  · rw [MayWait_zero]; iintro -; iempintro

/-! ## The rules of the kernel's steps -/

/-- All the semaphores of a device: the barrier first, then the transfer cells. -/
def csem (i : Fin 22) : SemLoc sig := if i.val = 0 then .reg barS else .dma (ds (1 + i.val))
def kcell (ci : Dev nD × Fin 22) : GSem nD τ sig := ((ci.1 : Thread nD τ), csem ci.2)

theorem kcell_bar (c : Dev nD) : kcell (c, 0) = bar c := rfl
theorem kcell_cel (c : Dev nD) {j : ℕ} (hj : j < 21) : kcell (c, ⟨j + 1, by omega⟩) = cel c j := by
  unfold kcell csem
  rw [if_neg (by simp)]
  show ((c : Thread nD τ), SemLoc.dma (ds (1 + (j + 1)))) = _
  rw [show 1 + (j + 1) = 2 + j by omega]

section Rules
variable (X : Dev nD → S256x256.Idx → Elt F .f32)

/-- What every device knows: every cell follows the schedule, its round is open, and the levels. -/
def ctx : sProp 𝕄 :=
  iprop((bigSep Finset.univ fun ci : Dev nD × Fin 22 => iprop((∃ κ : ℕ, cellInv ER (rd X) κ (kcell ci)) ∗ reached ER (kcell ci) 0))
    ∗ levAts L lv)

instance ctx_persistent : BI.Persistent (ctx X) := by unfold ctx; infer_instance

theorem ctx_at (ci : Dev nD × Fin 22) : ctx X ⊢ iprop((∃ κ : ℕ, cellInv ER (rd X) κ (kcell ci)) ∗ reached ER (kcell ci) 0) :=
  sep_elim_left.trans (bigSep_elim (Finset.mem_univ ci))
theorem ctx_bar (c : Dev nD) : ctx X ⊢ iprop((∃ κ : ℕ, cellInv ER (rd X) κ (bar c)) ∗ reached ER (bar c) 0) := ctx_at X (c, 0)
theorem ctx_cel (c : Dev nD) {j : ℕ} (hj : j < 21) : ctx X ⊢ iprop((∃ κ : ℕ, cellInv ER (rd X) κ (cel c j)) ∗ reached ER (cel c j) 0) := by
  rw [← kcell_cel c hj]; exact ctx_at X _
theorem ctx_lev : ctx X ⊢ levAts L lv := sep_elim_right

/-- What device `c` owes, its record of past waits left open. -/
def owing (c : Dev nD) (O : CellTallies nD τ sig Unit) : sProp 𝕄 := iprop(∃ W, owes (c : Thread nD τ) O W)

/-- What the device hands over at a transfer: the duty of its own sending cell and that of the target's receiving cell. -/
def stok (c : Dev nD) (k : ℕ) : sProp 𝕄 := iprop(dutyTok ER (cel c k) 0 false ∗ dutyTok ER (cel (tgt k c) (10 + k)) 0 false)

/-- The wait for transfer cell `j`, with nothing left to owe that is not above it: what the cell gives, and its counter,
    at zero for good. -/
theorem wp_wait {α : Type} {Kt : α → sProp 𝕄} {kk : PUnit → Prog (TpuEff nD τ sig (Elt F) Λ₀ .tc) α}
    (c : Dev nD) (j n : ℕ) (hj : j < 21) (hn : ∀ s : Fin 10, 10 - n ≤ s.val → lvD (2 + j) < lvD (2 + (10 + s.val)))
    {sem : DmaSem sig} (hsem : sem = ds (2 + j)) {s s' : Shape} {src : Memref sig .tc .vmem s' .f32} {dst : Memref sig .tc .vmem s .f32}
    (hcr : dst.view.dmaCredit = amt j) {hsrc : src.view.WordExact} {hdst : dst.view.WordExact} :
    ctx X ⊢ iprop(cred (tallyAt (cel c j) () (amt j)) -∗ owing c (ow c n) -∗ atPos ER (cel c j) 0 ∅ 0
      -∗ ((owing c (ow c n) ∗ semVal (cel c j) 0 ∗ pay X c j) -∗ wp frame (wpE (defs₀ (F := F)) 𝒱₀ (c : Thread nD τ) none) Set.univ (kk ⟨⟩) Kt)
      -∗ wp frame (wpE (defs₀ (F := F)) 𝒱₀ (c : Thread nD τ) none) Set.univ (.op (.waitDma2 sem src dst hsrc hdst) kk) Kt) := by
  subst hsem
  have he : 0 + dst.view.dmaCredit = (rd X).expect (cel c j) 0 := by rw [Nat.zero_add, expect_cel X c hj, hcr]
  unfold owing
  iintro #HX Hc ⟨%W, HO⟩ Hat Hk
  ihave Hi := (ctx_cel X c hj) $$ HX
  icases Hi with ⟨⟨%κ, #HI⟩, -⟩
  ihave Hl := (ctx_lev X) $$ HX
  iapply (Rounds.wp_wait_rest_token 𝒱₀ ER (rd X) (c : Thread nD τ) none (κ := κ)
      (wpE_waitDma2_eq 𝒱₀ (c : Thread nD τ) none Set.univ) (Set.mem_univ _) () (O := ow c n) (W := W) (R := 0) (m := 0) (T := ∅)
      he) $$ [Hc HO Hat Hl]
  · isplitr; · iexact HI
    isplitl [Hc]; · rw [hcr]; iexact Hc
    isplitl [HO]; · iexact HO
    isplitl [Hl]
    · iapply (mayWait_ow (F := F) c (.dma (ds (2 + j))) n (fun s hs => by rw [lv_cel c hj]; exact hn s hs)); iexact Hl
    iexact Hat
  iintro ⟨HO, Hat, -, Hpay⟩
  ihave Hp := (Entails.of_eq (rest_cel X c hj)) $$ Hpay
  imod (Rounds.cell_close ER (rd X) (Set.mem_univ κ) (fun h => h) (R := 0 + 1) (duties_later X (cel c j))) $$ [Hat] with Hz
  · isplitr; · iexact HI
    iexact Hat
  iapply Hk
  isplitl [HO]; · iexists _; iexact HO
  isplitl [Hz] <;> iassumption

/-- A signal to a neighbour's barrier. -/
theorem wp_knock {α : Type} {Kt : α → sProp 𝕄} {kk : PUnit → Prog (TpuEff nD τ sig (Elt F) Λ₀ .tc) α}
    (c d n : Dev nD) (hn : n = d) (b : Bool) (hr : τ.routes (c : Thread nD τ) (d : Thread nD τ) = true)
    (O O' : CellTallies nD τ sig Unit) (hO : O' = O + tallyAt (bar d) () 1) :
    ctx X ⊢ iprop(owing c O' -∗ dutyTok ER (bar d) 0 b -∗ barPay d b
      -∗ (owing c O -∗ wp frame (wpE (defs₀ (F := F)) 𝒱₀ (c : Thread nD τ) none) Set.univ (kk ⟨⟩) Kt)
      -∗ wp frame (wpE (defs₀ (F := F)) 𝒱₀ (c : Thread nD τ) none) Set.univ (.op (.semSignal (n : Thread nD τ) barS (1#32).toNat) kk) Kt) := by
  subst hn
  have hone : (rd X).amount (bar n) 0 b = (1#32).toNat := (amount_bar X n b).trans (by decide)
  unfold owing
  iintro #HX ⟨%W, HO⟩ Ht Hp Hk
  ihave Hi := (ctx_bar X n) $$ HX
  icases Hi with ⟨⟨%κ, #HI⟩, #HR⟩
  iapply (Rounds.wp_signal 𝒱₀ ER (rd X) (c : Thread nD τ) none (dst := (n : Thread nD τ)) (κ := κ)
      (d := b) (mem_bar X n b) hone () O hO (hr := hr))
    $$ [HO Ht Hp]
  · isplitr; · iexact HI
    isplitl [HO]; · iexact HO
    isplitl [Ht]; · iexact Ht
    isplitl [Hp]; · rw [payload_bar]; iexact Hp
    iexact HR
  iintro HO
  iapply Hk; iexists _; iexact HO

/-- The wait for both neighbours at the barrier, all transfers still owed. -/
theorem wp_meet {α : Type} {Kt : α → sProp 𝕄} {kk : PUnit → Prog (TpuEff nD τ sig (Elt F) Λ₀ .tc) α}
    (c : Dev nD) :
    ctx X ⊢ iprop(cred (tallyAt (bar c) () 2) -∗ owing c (ow c 10) -∗ atPos ER (bar c) 0 ∅ 0
      -∗ ((owing c (ow c 10) ∗ semVal (bar c) 0 ∗ barPay c false ∗ barPay c true)
        -∗ wp frame (wpE (defs₀ (F := F)) 𝒱₀ (c : Thread nD τ) none) Set.univ (kk ⟨⟩) Kt)
      -∗ wp frame (wpE (defs₀ (F := F)) 𝒱₀ (c : Thread nD τ) none) Set.univ (.op (.semWait barS (2#32).toNat) kk) Kt) := by
  have he : 0 + (2#32).toNat = (rd X).expect (bar c) 0 := (expect_bar X c).symm
  unfold owing
  iintro #HX Hc ⟨%W, HO⟩ Hat Hk
  ihave Hi := (ctx_bar X c) $$ HX
  icases Hi with ⟨⟨%κ, #HI⟩, -⟩
  ihave Hl := (ctx_lev X) $$ HX
  iapply (Rounds.wp_wait_rest_token 𝒱₀ ER (rd X) (c : Thread nD τ) none (κ := κ)
      (wpE_semWait_eq 𝒱₀ (c : Thread nD τ) none Set.univ) (Set.mem_univ _) () (O := ow c 10) (W := W) (R := 0) (m := 0) (T := ∅)
      he) $$ [Hc HO Hat Hl]
  · isplitr; · iexact HI
    isplitl [Hc]; · iexact Hc
    isplitl [HO]; · iexact HO
    isplitl [Hl]
    · iapply (mayWait_ow (F := F) c (.reg barS) 10 (fun s _ => by
        have h : ∀ s : Fin 10, 1 < lvD (2 + (10 + s.val)) := by decide
        exact h s)); iexact Hl
    iexact Hat
  iintro ⟨HO, Hat, -, Hpay⟩
  ihave Hp := (Entails.of_eq (rest_bar X c)) $$ Hpay
  imod (Rounds.cell_close ER (rd X) (Set.mem_univ κ) (fun h => h) (R := 0 + 1) (duties_later X (bar c))) $$ [Hat] with Hz
  · isplitr; · iexact HI
    iexact Hat
  iapply Hk
  isplitl [HO]; · iexists _; iexact HO
  isplitl [Hz] <;> iassumption

/-- A band of the input block, as a slice of it. -/
theorem xP_slice (c : Dev nD) (sh : PosShare TreeShare) {off sz : Fin 2 → ℕ} {q n : ℕ} (hoff : off = ![64 * q, 0]) (hsz : sz = ![64 * n, 256])
    (inb : ∀ a, off a + sz a ≤ S256x256.size a) (h) :
    ((xM.slice (Rect.unit (s := S256x256) off sz inb) h).view.loc (c : Thread nD τ)
      ↦[(xM.slice (Rect.unit (s := S256x256) off sz inb) h).view.set]{sh} X c : sProp 𝕄) = xP X c (Finset.Ico q (q + n)) sh := by
  rw [x_set hoff hsz inb h]; rfl
/-- A band of the output, as a slice of it. -/
theorem oP_slice (c : Dev nD) (f : S1024x256.Idx → Elt F .f32) {off sz : Fin 2 → ℕ} {q n : ℕ} (hoff : off = ![64 * q, 0]) (hsz : sz = ![64 * n, 256])
    (inb : ∀ a, off a + sz a ≤ S1024x256.size a) (h) :
    ((oM.slice (Rect.unit (s := S1024x256) off sz inb) h).view.loc (c : Thread nD τ)
      ↦[(oM.slice (Rect.unit (s := S1024x256) off sz inb) h).view.set]{fullShare} f : sProp 𝕄) = oP c (Finset.Ico q (q + n)) f := by
  rw [o_set hoff hsz inb h]; rfl

/-- Transfer `k < 6`: a band of the input block to the target. -/
theorem wp_send_x {α : Type} {Kt : α → sProp 𝕄} {kk : PUnit → Prog (TpuEff nD τ sig (Elt F) Λ₀ .tc) α}
    (c n : Dev nD) (k j : ℕ) (hk : k < 6) (hj : k + j = 9) (hn : n = tgt k c)
    {offx off sz : Fin 2 → ℕ} (hoffx : offx = ![64 * qlo k, 0]) (hoff : off = ![64 * (4 * c.val + qlo k), 0]) (hsz : sz = ![64 * qn k, 256])
    {inbx : ∀ a, offx a + sz a ≤ S256x256.size a} {hx} {inb : ∀ a, off a + sz a ≤ S1024x256.size a} {ho}
    {sS sR : DmaSem sig} (hS : sS = ds (2 + k)) (hR : sR = ds (2 + (10 + k))) {hsc}
    {hsrc : (xM.slice (Rect.unit (s := S256x256) offx sz inbx) hx).view.WordExact}
    {hdst : (oM.slice (Rect.unit (s := S1024x256) off sz inb) ho).view.WordExact} {hsem} :
    ctx X ⊢ iprop(xP X c (part k) (shr k) -∗ hole (tgt k c) k -∗ owing c (ow c (j + 1)) -∗ stok c k
      -∗ ((cred (tallyAt (cel c k) () (amt k)) ∗ owing c (ow c j)) -∗ wp frame (wpE (defs₀ (F := F)) 𝒱₀ (c : Thread nD τ) none) Set.univ (kk ⟨⟩) Kt)
      -∗ wp frame (wpE (defs₀ (F := F)) 𝒱₀ (c : Thread nD τ) none) Set.univ
          (.op (.enqueueDma (xM.slice (Rect.unit (s := S256x256) offx sz inbx) hx)
            (.remote (Dev.tc n : Thread nD τ) (oM.slice (Rect.unit (s := S1024x256) off sz inb) ho) (.dma sS) hsc) (.dma sR) hsrc hdst hsem) kk) Kt) := by
  subst hn hS hR
  have hq : qn k = 1 ∨ qn k = 2 ∨ qn k = 4 := by
    have h : ∀ k : Fin 6, qn k = 1 ∨ qn k = 2 ∨ qn k = 4 := by decide
    exact h ⟨k, hk⟩
  have hcr := credit_o hq hsz inb ho
  have hland : land k (tgt k c) = Finset.Ico (4 * c.val + qlo k) (4 * c.val + qlo k + qn k) := by
    unfold land; rw [lo_tgt c ⟨k, hk⟩]
  have hamt : amt k = credit (qn k) := by unfold amt slot; rw [if_pos (by omega)]
  have hamt' : amt (10 + k) = credit (qn k) := by unfold amt slot; rw [if_neg (by omega), Nat.add_sub_cancel_left]
  unfold owing stok hole
  iintro #HX Hx ⟨%f, Hh⟩ ⟨%W, HO⟩ ⟨Ht, Ht'⟩ Hk
  ihave Hi := (ctx_cel X c (show k < 21 by omega)) $$ HX
  icases Hi with ⟨⟨%κ, #HI⟩, #HR⟩
  ihave Hi' := (ctx_cel X (tgt k c) (show 10 + k < 21 by omega)) $$ HX
  icases Hi' with ⟨⟨%κ', #HI'⟩, #HR'⟩
  have hm := mem_cel X c (show k < 21 by omega)
  have hm' := mem_cel X (tgt k c) (show 10 + k < 21 by omega)
  have ha : (rd X).amount (cel c k) 0 false = credit (qn k) := (amount_cel X c (by omega) false).trans hamt
  have ha' : (rd X).amount (cel (tgt k c) (10 + k)) 0 false = credit (qn k) := (amount_cel X _ (by omega) false).trans hamt'
  have hO : ow c (j + 1) = ow c j + tallyAt (cel (tgt k c) (10 + k)) () (credit (qn k)) := by rw [ow_step c hj, hamt']
  have hp : ((xM.slice (Rect.unit (s := S256x256) offx sz inbx) hx).view.loc (c : Thread nD τ)
      ↦[(xM.slice (Rect.unit (s := S256x256) offx sz inbx) hx).view.set]{shr k} X c : sProp 𝕄) ⊢ (rd X).payload (cel c k) 0 false := by
    rw [payload_cel X c (by omega), xP_slice X c (shr k) hoffx hsz inbx hx]
    unfold pay sndPay; rw [if_pos (by omega), if_pos hk]; exact BI.Entails.refl _
  have hp' : ((oM.slice (Rect.unit (s := S1024x256) off sz inb) ho).view.loc (tgt k c : Thread nD τ)
      ↦[(oM.slice (Rect.unit (s := S1024x256) off sz inb) ho).view.set]{fullShare}
        ((oM.slice (Rect.unit (s := S1024x256) off sz inb) ho).view.write (Elt F) f
          ((xM.slice (Rect.unit (s := S256x256) offx sz inbx) hx).view.read (Elt F) (X c)) Finset.univ) : sProp 𝕄)
      ⊢ (rd X).payload (cel (tgt k c) (10 + k)) 0 false := by
    rw [payload_cel X _ (by omega), pointsTo_congr (land_x X c hoffx hoff hsz inbx hx inb ho f), oP_slice (tgt k c) (stack X) hoff hsz inb ho]
    unfold pay got; rw [if_neg (by omega), if_neg (by omega), Nat.add_sub_cancel_left, hland]
  rw [hland, show part k = Finset.Ico (qlo k) (qlo k + qn k) from rfl]
  ihave Hx' := (Entails.of_eq (xP_slice X c (shr k) hoffx hsz inbx hx).symm) $$ Hx
  ihave Hh' := (Entails.of_eq (oP_slice (tgt k c) f hoff hsz inb ho).symm) $$ Hh
  iapply (Rounds.wp_send_pointsTo 𝒱₀ ER (rd X) (c : Thread nD τ) none (c' := (tgt k c : Thread nD τ)) (κ₁ := κ) (κ₂ := κ')
    (src := xM.slice (Rect.unit (s := S256x256) offx sz inbx) hx)
    (dst := oM.slice (Rect.unit (s := S1024x256) off sz inb) ho) (sS := .dma (ds (2 + k))) (sem := .dma (ds (2 + (10 + k)))) (O₀ := ow c (j + 1))
    (r₁ := 0) (r₂ := 0) (d₁ := false) (d₂ := false) (fd := f)
    hm hm'
    () () (credit (qn k)) hcr ha ha'
    (ow c j) hO (W := W)
    hp hp') $$ [Hx' Hh' HO Ht Ht']
  · isplitr; · iexact HI
    isplitr; · iexact HI'
    isplitl [Hx']; · iexact Hx'
    isplitl [Hh']; · iexact Hh'
    isplitl [HO]; · iexact HO
    isplitl [Ht]; · iexact Ht
    isplitr; · iexact HR
    isplitl [Ht']; · iexact Ht'
    iexact HR'
  iintro ⟨Hc, HO⟩
  iapply Hk
  isplitl [Hc]; · rw [hamt]; iexact Hc
  iexists _; iexact HO

/-- Transfer `k ≥ 6`: a piece already gathered, forwarded to the same place of the target. -/
theorem wp_send_o {α : Type} {Kt : α → sProp 𝕄} {kk : PUnit → Prog (TpuEff nD τ sig (Elt F) Λ₀ .tc) α}
    (c n : Dev nD) (k j : ℕ) (hk : 6 ≤ k) (hj : k + j = 9) (hn : n = tgt k c)
    {off sz : Fin 2 → ℕ} (hoff : off = ![64 * lo (fwd k) c, 0]) (hsz : sz = ![64 * qn (fwd k), 256])
    {inb : ∀ a, off a + sz a ≤ S1024x256.size a} {ho}
    {sS sR : DmaSem sig} (hS : sS = ds (2 + k)) (hR : sR = ds (2 + (10 + k))) {hsc}
    {hsrc : (oM.slice (Rect.unit (s := S1024x256) off sz inb) ho).view.WordExact}
    {hdst : (oM.slice (Rect.unit (s := S1024x256) off sz inb) ho).view.WordExact} {hsem} :
    ctx X ⊢ iprop(got X c (fwd k) -∗ hole (tgt k c) k -∗ owing c (ow c (j + 1)) -∗ stok c k
      -∗ ((cred (tallyAt (cel c k) () (amt k)) ∗ owing c (ow c j)) -∗ wp frame (wpE (defs₀ (F := F)) 𝒱₀ (c : Thread nD τ) none) Set.univ (kk ⟨⟩) Kt)
      -∗ wp frame (wpE (defs₀ (F := F)) 𝒱₀ (c : Thread nD τ) none) Set.univ
          (.op (.enqueueDma (oM.slice (Rect.unit (s := S1024x256) off sz inb) ho)
            (.remote (Dev.tc n : Thread nD τ) (oM.slice (Rect.unit (s := S1024x256) off sz inb) ho) (.dma sS) hsc) (.dma sR) hsrc hdst hsem) kk) Kt) := by
  subst hn hS hR
  have hq : qn (fwd k) = 1 ∨ qn (fwd k) = 2 ∨ qn (fwd k) = 4 := by
    have h : ∀ k : Fin 10, qn (fwd k) = 1 ∨ qn (fwd k) = 2 ∨ qn (fwd k) = 4 := by decide
    exact h ⟨k, by omega⟩
  have hcr := credit_o hq hsz inb ho
  obtain ⟨hlo, hqn⟩ := lo_fwd c ⟨k, by omega⟩ hk
  have hland : land k (tgt k c) = Finset.Ico (lo (fwd k) c) (lo (fwd k) c + qn (fwd k)) := by
    unfold land; rw [hlo, hqn]
  have hamt : amt k = credit (qn (fwd k)) := by unfold amt slot; rw [if_pos (by omega), hqn]
  have hamt' : amt (10 + k) = credit (qn (fwd k)) := by unfold amt slot; rw [if_neg (by omega), Nat.add_sub_cancel_left, hqn]
  unfold owing stok hole
  iintro #HX Hx ⟨%f, Hh⟩ ⟨%W, HO⟩ ⟨Ht, Ht'⟩ Hk
  ihave Hi := (ctx_cel X c (show k < 21 by omega)) $$ HX
  icases Hi with ⟨⟨%κ, #HI⟩, #HR⟩
  ihave Hi' := (ctx_cel X (tgt k c) (show 10 + k < 21 by omega)) $$ HX
  icases Hi' with ⟨⟨%κ', #HI'⟩, #HR'⟩
  have hm := mem_cel X c (show k < 21 by omega)
  have hm' := mem_cel X (tgt k c) (show 10 + k < 21 by omega)
  have ha : (rd X).amount (cel c k) 0 false = credit (qn (fwd k)) := (amount_cel X c (by omega) false).trans hamt
  have ha' : (rd X).amount (cel (tgt k c) (10 + k)) 0 false = credit (qn (fwd k)) := (amount_cel X _ (by omega) false).trans hamt'
  have hO : ow c (j + 1) = ow c j + tallyAt (cel (tgt k c) (10 + k)) () (credit (qn (fwd k))) := by rw [ow_step c hj, hamt']
  have hp : ((oM.slice (Rect.unit (s := S1024x256) off sz inb) ho).view.loc (c : Thread nD τ)
      ↦[(oM.slice (Rect.unit (s := S1024x256) off sz inb) ho).view.set]{fullShare} stack X : sProp 𝕄) ⊢ (rd X).payload (cel c k) 0 false := by
    rw [payload_cel X c (by omega), oP_slice c (stack X) hoff hsz inb ho]
    unfold pay sndPay got; rw [if_pos (by omega), if_neg (by omega)]; exact BI.Entails.refl _
  have hp' : ((oM.slice (Rect.unit (s := S1024x256) off sz inb) ho).view.loc (tgt k c : Thread nD τ)
      ↦[(oM.slice (Rect.unit (s := S1024x256) off sz inb) ho).view.set]{fullShare}
        ((oM.slice (Rect.unit (s := S1024x256) off sz inb) ho).view.write (Elt F) f
          ((oM.slice (Rect.unit (s := S1024x256) off sz inb) ho).view.read (Elt F) (stack X)) Finset.univ) : sProp 𝕄)
      ⊢ (rd X).payload (cel (tgt k c) (10 + k)) 0 false := by
    rw [payload_cel X _ (by omega), pointsTo_congr (land_o X inb ho f), oP_slice (tgt k c) (stack X) hoff hsz inb ho]
    unfold pay got; rw [if_neg (by omega), if_neg (by omega), Nat.add_sub_cancel_left, hland]
  rw [hland]
  unfold got
  rw [show land (fwd k) c = Finset.Ico (lo (fwd k) c) (lo (fwd k) c + qn (fwd k)) from rfl]
  ihave Hx' := (Entails.of_eq (oP_slice c (stack X) hoff hsz inb ho).symm) $$ Hx
  ihave Hh' := (Entails.of_eq (oP_slice (tgt k c) f hoff hsz inb ho).symm) $$ Hh
  iapply (Rounds.wp_send_pointsTo 𝒱₀ ER (rd X) (c : Thread nD τ) none (c' := (tgt k c : Thread nD τ)) (κ₁ := κ) (κ₂ := κ')
    (src := oM.slice (Rect.unit (s := S1024x256) off sz inb) ho)
    (dst := oM.slice (Rect.unit (s := S1024x256) off sz inb) ho) (sS := .dma (ds (2 + k))) (sem := .dma (ds (2 + (10 + k)))) (O₀ := ow c (j + 1))
    (r₁ := 0) (r₂ := 0) (d₁ := false) (d₂ := false) (fd := f)
    hm hm'
    () () (credit (qn (fwd k))) hcr ha ha'
    (ow c j) hO (W := W)
    hp hp') $$ [Hx' Hh' HO Ht Ht']
  · isplitr; · iexact HI
    isplitr; · iexact HI'
    isplitl [Hx']; · iexact Hx'
    isplitl [Hh']; · iexact Hh'
    isplitl [HO]; · iexact HO
    isplitl [Ht]; · iexact Ht
    isplitr; · iexact HR
    isplitl [Ht']; · iexact Ht'
    iexact HR'
  iintro ⟨Hc, HO⟩
  iapply Hk
  isplitl [Hc]; · rw [hamt]; iexact Hc
  iexists _; iexact HO

/-- The local copy: the whole input block to the device's own rows. -/
theorem wp_own {α : Type} {Kt : α → sProp 𝕄} {kk : PUnit → Prog (TpuEff nD τ sig (Elt F) Λ₀ .tc) α}
    (c : Dev nD) {off : Fin 2 → ℕ} (hoff : off = ![256 * c.val, 0])
    {inb : ∀ a, off a + S256x256.size a ≤ S1024x256.size a} {ho} {sem : DmaSem sig} (hs : sem = ds (2 + 20))
    {hsrc : xM.view.WordExact} {hdst : (oM.slice (Rect.unit (s := S1024x256) off S256x256.size inb) ho).view.WordExact} {hsem} :
    ctx X ⊢ iprop(xP X c (Finset.range 4) fullShare.left -∗ hole c 10 -∗ dutyTok ER (cel c 20) 0 false
      -∗ (cred (tallyAt (cel c 20) () (amt 20)) -∗ wp frame (wpE (defs₀ (F := F)) 𝒱₀ (c : Thread nD τ) none) Set.univ (kk ⟨⟩) Kt)
      -∗ wp frame (wpE (defs₀ (F := F)) 𝒱₀ (c : Thread nD τ) none) Set.univ
          (.op (.enqueueDma xM (.here (oM.slice (Rect.unit (s := S1024x256) off S256x256.size inb) ho)) (.dma sem) hsrc hdst hsem) kk) Kt) := by
  subst hs
  have hsz : S256x256.size = ![64 * 4, 256] := rfl
  have hoff' : off = ![64 * (4 * c.val + 0), 0] := hoff.trans (congrArg (fun n => (![n, 0] : Fin 2 → ℕ)) (by omega))
  have hcr := credit_o (.inr (.inr rfl)) hsz inb ho
  have hamt : amt 20 = credit 4 := congrArg credit (show qn (slot 20) = 4 by decide)
  have hland : land 10 c = Finset.Ico (4 * c.val + 0) (4 * c.val + 0 + 4) := rfl
  have hxe : (xM.view.loc (c : Thread nD τ) ↦[xM.view.set]{fullShare.left} X c : sProp 𝕄) = xP X c (Finset.range 4) fullShare.left := by
    unfold xP; rw [xq_all, show xM.view.set = Finset.univ from View.set_whole _]
  unfold hole
  iintro #HX Hx ⟨%f, Hh⟩ Ht Hk
  ihave Hi := (ctx_cel X c (show 20 < 21 by omega)) $$ HX
  icases Hi with ⟨⟨%κ, #HI⟩, #HR⟩
  have hm := mem_cel X c (show 20 < 21 by omega)
  have ha : (rd X).amount (cel c 20) 0 false = amt 20 := amount_cel X c (by omega) false
  have hp : iprop(((oM.slice (Rect.unit (s := S1024x256) off S256x256.size inb) ho).view.loc (c : Thread nD τ)
      ↦[(oM.slice (Rect.unit (s := S1024x256) off S256x256.size inb) ho).view.set]{fullShare}
        ((oM.slice (Rect.unit (s := S1024x256) off S256x256.size inb) ho).view.write (Elt F) f (xM.view.read (Elt F) (X c)) Finset.univ))
      ∗ (xM.view.loc (c : Thread nD τ) ↦[xM.view.set]{fullShare.left} X c) : sProp 𝕄) ⊢ (rd X).payload (cel c 20) 0 false := by
    rw [payload_cel X c (by omega), pointsTo_congr (land_all X c hoff inb ho f), oP_slice c (stack X) hoff' hsz inb ho, hxe]
    unfold pay cpyPay got; rw [if_neg (by omega), if_pos rfl, hland]
  rw [hland]
  ihave Hx' := (Entails.of_eq hxe.symm) $$ Hx
  ihave Hh' := (Entails.of_eq (oP_slice c f hoff' hsz inb ho).symm) $$ Hh
  iapply (Rounds.wp_copy_pointsTo 𝒱₀ ER (rd X) (c : Thread nD τ) none (src := xM)
    (dst := oM.slice (Rect.unit (s := S1024x256) off S256x256.size inb) ho) (sem := .dma (ds (2 + 20))) (κ := κ) (r := 0) (d := false) (fd := f)
    hm () (amt 20) (hcr.trans hamt.symm) ha
    hp) $$ [Hx' Hh' Ht]
  · isplitr; · iexact HI
    isplitl [Hx']; · iexact Hx'
    isplitl [Hh']; · iexact Hh'
    isplitl [Ht]; · iexact Ht
    iexact HR
  iexact Hk

end Rules

end Cert.Gather

end
-- ==== Proof.Body.lean ====
/- One device's run of the kernel: from its block of the input, its tokens and positions to the gathered output, every
semaphore closed at zero. -/
module

public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S256x256.Idx → Elt F .f32)

/-! ## The input block in shares, the output in pieces -/

theorem xP_union (c : Dev nD) {A B : Finset ℕ} (h : Disjoint A B) (q : PosShare TreeShare) :
    xP X c (A ∪ B) q ⊣⊢ iprop(xP X c A q ∗ xP X c B q) := by
  unfold xP; rw [show xq (A ∪ B) = xq A ∪ xq B from rows_union _ A B]
  exact pointsTo_union (rows_disjoint _ h)

/-- The whole block under one share, as the quarters the three rightward transfers of it send; -/
theorem xP_right (c : Dev nD) (q : PosShare TreeShare) :
    xP X c (Finset.range 4) q ⊣⊢ iprop(xP X c (part 0) q ∗ xP X c (part 1) q ∗ xP X c (part 2) q) := by
  rw [show Finset.range 4 = part 0 ∪ (part 1 ∪ part 2) by decide]
  exact (xP_union X c (by decide) q).trans (sep_congr_right (xP_union X c (by decide) q))
/-- and as those the three leftward ones send. -/
theorem xP_left (c : Dev nD) (q : PosShare TreeShare) :
    xP X c (Finset.range 4) q ⊣⊢ iprop(xP X c (part 3) q ∗ xP X c (part 4) q ∗ xP X c (part 5) q) := by
  have h : xP X c (Finset.range 4) q ⊣⊢ iprop(xP X c (part 5) q ∗ xP X c (part 3 ∪ part 4) q) := by
    rw [show Finset.range 4 = part 5 ∪ (part 3 ∪ part 4) by decide]
    exact xP_union X c (by decide) q
  exact h.trans ((sep_congr_right (xP_union X c (by decide) q)).trans (sep_comm.trans sep_assoc))

/-- The input block of a device, whole. -/
def xAll (c : Dev nD) : sProp 𝕄 := xP X c (Finset.range 4) fullShare

theorem xAll_eq (c : Dev nD) : xAll X c = ((c : Thread nD τ).loc cc0_stg0_0 ↦{fullShare} X c : sProp 𝕄) := by
  unfold xAll xP; rw [xq_all]

/-- The block whole is a share for the local copy, one for each rightward transfer's part, one for each leftward's. -/
theorem xAll_split (c : Dev nD) :
    xAll X c ⊣⊢ iprop(xP X c (Finset.range 4) fullShare.left
      ∗ (xP X c (part 0) (shr 0) ∗ xP X c (part 1) (shr 1) ∗ xP X c (part 2) (shr 2))
      ∗ (xP X c (part 3) (shr 3) ∗ xP X c (part 4) (shr 4) ∗ xP X c (part 5) (shr 5))) := by
  have h1 : xAll X c ⊣⊢ iprop(xP X c (Finset.range 4) fullShare.left ∗ xP X c (Finset.range 4) fullShare.right) := by
    unfold xAll xP; exact pointsTo_share (PosShare.mem_left_op_right fullShare)
  have h2 : xP X c (Finset.range 4) fullShare.right
      ⊣⊢ iprop(xP X c (Finset.range 4) fullShare.right.left ∗ xP X c (Finset.range 4) fullShare.right.right) := by
    unfold xP; exact pointsTo_share (PosShare.mem_left_op_right fullShare.right)
  exact h1.trans (sep_congr_right (h2.trans (sep_congr (xP_right X c _) (xP_left X c _))))

omit [FloatOps F] in
/-- The output of a device, whole, is its eleven pieces. -/
theorem out_split (c : Dev nD) (f : S1024x256.Idx → Elt F .f32) :
    ((c : Thread nD τ).loc cc0_stg1_0 ↦{fullShare} f : sProp 𝕄)
      = iprop(oP c (land 0 c) f ∗ oP c (land 1 c) f ∗ oP c (land 2 c) f ∗ oP c (land 3 c) f ∗ oP c (land 4 c) f ∗ oP c (land 5 c) f
          ∗ oP c (land 6 c) f ∗ oP c (land 7 c) f ∗ oP c (land 8 c) f ∗ oP c (land 9 c) f ∗ oP c (land 10 c) f) := by
  have h : (Finset.univ : Finset S1024x256.Idx) = Finset.univ.biUnion fun k : Fin 11 => oq (land k c) := by
    rw [← oq_all, ← land_cover c]; exact rows_biUnion _ _ _
  have h2 : ((c : Thread nD τ).loc cc0_stg1_0 ↦{fullShare} f : sProp 𝕄) = bigSep Finset.univ fun k : Fin 11 => oP c (land k c) f := by
    refine Eq.trans ?_ (pointsTo_biUnion (ℓ := oM.view.loc (c : Thread nD τ)) Finset.univ (fun k : Fin 11 => oq (land k c))
      (fun k _ k' _ hk => rows_disjoint _ (land_disjoint c k k' hk)))
    refine congrArg (fun S : Finset (Idx (oM.view.loc (c : Thread nD τ))) => (oM.view.loc (c : Thread nD τ) ↦[S]{fullShare} f : sProp 𝕄)) ?_
    refine h.trans ?_
    congr
  rw [h2, bigSep_univ_eq_bigSepL [0, 1, 2, 3, 4, 5, 6, 7, 8, 9, 10] (by decide) (by decide)]
  rfl

/-! ## What a device starts from and ends with -/

/-- For transfer `k`: the duties it pays, the positions at its two cells here, and the credit of the transfer `k` coming in. -/
def kit (c : Dev nD) (k : ℕ) : sProp 𝕄 :=
  iprop(stok c k ∗ atPos ER (cel c k) 0 ∅ 0 ∗ atPos ER (cel c (10 + k)) 0 ∅ 0 ∗ cred (tallyAt (cel c (10 + k)) () (amt (10 + k))))

/-- All of them, and the same for the barrier and the local copy. -/
def mine (c : Dev nD) : sProp 𝕄 :=
  iprop((kit c 0 ∗ kit c 1 ∗ kit c 2 ∗ kit c 3 ∗ kit c 4 ∗ kit c 5 ∗ kit c 6 ∗ kit c 7 ∗ kit c 8 ∗ kit c 9)
    ∗ (dutyTok ER (cel c 20) 0 false ∗ atPos ER (cel c 20) 0 ∅ 0)
    ∗ dutyTok ER (bar (prv c)) 0 false ∗ dutyTok ER (bar (nxt c)) 0 true ∗ atPos ER (bar c) 0 ∅ 0 ∗ cred (tallyAt (bar c) () 2))

/-- The two cells of transfer `k` here, closed. -/
def shut (c : Dev nD) (k : ℕ) : sProp 𝕄 := iprop(semVal (cel c k) 0 ∗ semVal (cel c (10 + k)) 0)
/-- All cells closed. -/
def closed (c : Dev nD) : sProp 𝕄 :=
  iprop((shut c 0 ∗ shut c 1 ∗ shut c 2 ∗ shut c 3 ∗ shut c 4 ∗ shut c 5 ∗ shut c 6 ∗ shut c 7 ∗ shut c 8 ∗ shut c 9)
    ∗ semVal (cel c 20) 0 ∗ semVal (bar c) 0)

theorem pay_in (c : Dev nD) {k : ℕ} (hk : k < 10) : pay X c (10 + k) = got X c k := by
  unfold pay; rw [if_neg (by omega), if_neg (by omega), Nat.add_sub_cancel_left]
theorem pay_out_x (c : Dev nD) {k : ℕ} (hk : k < 6) : pay X c k = xP X c (part k) (shr k) := by
  unfold pay sndPay; rw [if_pos (by omega), if_pos hk]
theorem pay_out_o (c : Dev nD) {k m : ℕ} (hk : 6 ≤ k) (hk' : k < 10) (hm : fwd k = m) : pay X c k = got X c m := by
  unfold pay sndPay; rw [if_pos hk', if_neg (by omega), hm]
theorem pay_copy (c : Dev nD) : pay X c 20 = iprop(got X c 10 ∗ xP X c (Finset.range 4) fullShare.left) := by
  unfold pay cpyPay; rw [if_neg (by omega), if_pos rfl]

theorem route_prv (c : Dev nD) : τ.routes (c : Thread nD τ) (prv c : Thread nD τ) = true := by revert c; decide
theorem route_nxt (c : Dev nD) : τ.routes (c : Thread nD τ) (nxt c : Thread nD τ) = true := by revert c; decide

/-- The word of the right neighbour brings the pieces of it that this device fills, -/
theorem barPay_false (c : Dev nD) : (barPay c false : sProp 𝕄)
    = iprop(hole (tgt 0 c) 0 ∗ hole (tgt 1 c) 1 ∗ hole (tgt 2 c) 2 ∗ hole (tgt 6 c) 6 ∗ hole (tgt 7 c) 7) := rfl
/-- and so does that of the left one. -/
theorem barPay_true (c : Dev nD) : (barPay c true : sProp 𝕄)
    = iprop(hole (tgt 3 c) 3 ∗ hole (tgt 4 c) 4 ∗ hole (tgt 5 c) 5 ∗ hole (tgt 8 c) 8 ∗ hole (tgt 9 c) 9) := rfl

set_option maxHeartbeats 4000000 in
set_option maxRecDepth 20000 in
/-- The kernel on device `c`. -/
theorem run_body (c : Dev nD) (Kt : PUnit → sProp 𝕄) :
    ctx X ⊢ iprop(mine c -∗ owing c (O₀ c) -∗ xAll X c -∗ (∃ f, (c : Thread nD τ).loc cc0_stg1_0 ↦{fullShare} f)
      -∗ ((owing c 0 ∗ closed c ∗ xAll X c ∗ ((c : Thread nD τ).loc cc0_stg1_0 ↦{fullShare} stack X)) -∗ Kt ⟨⟩)
      -∗ wp frame (wpE (defs₀ (F := F)) 𝒱₀ (c : Thread nD τ) none) Set.univ
          (cc0_body (Memref.whole cc0_stg0_0) (Memref.isWhole_whole _) (Memref.whole cc0_stg1_0) (Memref.isWhole_whole _)
            cc0_scratch0 cc0_scratch1 cc0_scratch2) Kt) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold mine
  iintro #HX ⟨⟨H0, H1, H2, H3, H4, H5, H6, H7, H8, H9⟩, ⟨HtC, HaC⟩, HtP, HtN, HaB, HcB⟩ HO Hx ⟨%f, Hout⟩ Hk
  unfold kit
  icases H0 with ⟨Ht0, Hs0, Hr0, Hc0⟩
  icases H1 with ⟨Ht1, Hs1, Hr1, Hc1⟩
  icases H2 with ⟨Ht2, Hs2, Hr2, Hc2⟩
  icases H3 with ⟨Ht3, Hs3, Hr3, Hc3⟩
  icases H4 with ⟨Ht4, Hs4, Hr4, Hc4⟩
  icases H5 with ⟨Ht5, Hs5, Hr5, Hc5⟩
  icases H6 with ⟨Ht6, Hs6, Hr6, Hc6⟩
  icases H7 with ⟨Ht7, Hs7, Hr7, Hc7⟩
  icases H8 with ⟨Ht8, Hs8, Hr8, Hc8⟩
  icases H9 with ⟨Ht9, Hs9, Hr9, Hc9⟩
  -- the input block in shares, the output in pieces
  ihave Hx' := (xAll_split X c).1 $$ Hx
  icases Hx' with ⟨HxA, ⟨Hx0, Hx1, Hx2⟩, Hx3, Hx4, Hx5⟩
  ihave Hout' := (Entails.of_eq (out_split c f)) $$ Hout
  icases Hout' with ⟨Ho0, Ho1, Ho2, Ho3, Ho4, Ho5, Ho6, Ho7, Ho8, Ho9, HoC⟩
  -- the local copy, and a word to each neighbour with the pieces it may fill
  iapply (wp_own X c (k0_off1_eq c) rfl) $$ HX HxA [HoC] HtC
  · unfold hole; iexists f; iexact HoC
  iintro HwC
  iapply (wp_knock X c (prv c) _ (dev1_eq c) false (route_prv c) (ow c 10 + tallyAt (bar (nxt c)) () 1) (O₀ c) rfl)
    $$ HX HO HtP [Ho0 Ho1 Ho2 Ho6 Ho7]
  · unfold barPay hole
    rw [nxt_prv]
    isplitl [Ho0]; · iexists f; iexact Ho0
    isplitl [Ho1]; · iexists f; iexact Ho1
    isplitl [Ho2]; · iexists f; iexact Ho2
    isplitl [Ho6]; · iexists f; iexact Ho6
    iexists f; iexact Ho7
  iintro HO
  iapply (wp_knock X c (nxt c) _ (dev2_eq c) true (route_nxt c) (ow c 10) _ rfl) $$ HX HO HtN [Ho3 Ho4 Ho5 Ho8 Ho9]
  · unfold barPay hole
    rw [prv_nxt]
    isplitl [Ho3]; · iexists f; iexact Ho3
    isplitl [Ho4]; · iexists f; iexact Ho4
    isplitl [Ho5]; · iexists f; iexact Ho5
    isplitl [Ho8]; · iexists f; iexact Ho8
    iexists f; iexact Ho9
  iintro HO
  iapply (wp_meet X c) $$ HX HcB HO HaB
  rw [barPay_false, barPay_true]
  iintro ⟨HO, HzB, ⟨Ho0, Ho1, Ho2, Ho6, Ho7⟩, Ho3, Ho4, Ho5, Ho8, Ho9⟩
  -- the block's own quarters, to both sides
  iapply (wp_send_x X c _ 0 9 (by decide) rfl (dev3_eq c) rfl (off2_at c 0) rfl rfl rfl) $$ HX Hx0 Ho0 HO Ht0
  iintro ⟨Hw0, HO⟩
  iapply (wp_send_x X c _ 1 8 (by decide) rfl (dev4_eq c) rfl (off2_at c 1) rfl rfl rfl) $$ HX Hx1 Ho1 HO Ht1
  iintro ⟨Hw1, HO⟩
  iapply (wp_send_x X c _ 2 7 (by decide) rfl (dev5_eq c) rfl (off3_at c 1) rfl rfl rfl) $$ HX Hx2 Ho2 HO Ht2
  iintro ⟨Hw2, HO⟩
  iapply (wp_send_x X c _ 3 6 (by decide) rfl (dev6_eq c) rfl (off2_at c 2) rfl rfl rfl) $$ HX Hx3 Ho3 HO Ht3
  iintro ⟨Hw3, HO⟩
  iapply (wp_send_x X c _ 4 5 (by decide) rfl (dev7_eq c) rfl (off2_at c 3) rfl rfl rfl) $$ HX Hx4 Ho4 HO Ht4
  iintro ⟨Hw4, HO⟩
  iapply (wp_send_x X c _ 5 4 (by decide) rfl (dev8_eq c) rfl (off3_at c 0) rfl rfl rfl) $$ HX Hx5 Ho5 HO Ht5
  iintro ⟨Hw5, HO⟩
  -- what arrived, forwarded
  iapply (wp_wait X c (10 + 0) 4 (by decide) (by decide) rfl (credit_o (Or.inl rfl) rfl _ _)) $$ HX Hc0 HO Hr0
  iintro ⟨HO, Hy0, Hp⟩
  ihave Hg0 := (Entails.of_eq (show pay X c (10 + 0) = got X c (fwd 6) from pay_in X c (by decide))) $$ Hp
  iapply (wp_send_o X c _ 6 3 (by decide) rfl (dev9_eq c) (off4_0 c) rfl rfl rfl) $$ HX Hg0 Ho6 HO Ht6
  iintro ⟨Hw6, HO⟩
  iapply (wp_wait X c (10 + 1) 3 (by decide) (by decide) rfl (credit_o (Or.inl rfl) rfl _ _)) $$ HX Hc1 HO Hr1
  iintro ⟨HO, Hy1, Hp⟩
  ihave Hg1 := (Entails.of_eq (show pay X c (10 + 1) = got X c (fwd 7) from pay_in X c (by decide))) $$ Hp
  iapply (wp_send_o X c _ 7 2 (by decide) rfl (dev10_eq c) (off4_1 c) rfl rfl rfl) $$ HX Hg1 Ho7 HO Ht7
  iintro ⟨Hw7, HO⟩
  iapply (wp_wait X c (10 + 3) 2 (by decide) (by decide) rfl (credit_o (Or.inl rfl) rfl _ _)) $$ HX Hc3 HO Hr3
  iintro ⟨HO, Hy3, Hp⟩
  ihave Hg3 := (Entails.of_eq (show pay X c (10 + 3) = got X c (fwd 8) from pay_in X c (by decide))) $$ Hp
  iapply (wp_send_o X c _ 8 1 (by decide) rfl (dev11_eq c) (off5_3 c) rfl rfl rfl) $$ HX Hg3 Ho8 HO Ht8
  iintro ⟨Hw8, HO⟩
  iapply (wp_wait X c (10 + 4) 1 (by decide) (by decide) rfl (credit_o (Or.inl rfl) rfl _ _)) $$ HX Hc4 HO Hr4
  iintro ⟨HO, Hy4, Hp⟩
  ihave Hg4 := (Entails.of_eq (show pay X c (10 + 4) = got X c (fwd 9) from pay_in X c (by decide))) $$ Hp
  iapply (wp_send_o X c _ 9 0 (by decide) rfl (dev12_eq c) (off5_4 c) rfl rfl rfl) $$ HX Hg4 Ho9 HO Ht9
  iintro ⟨Hw9, HO⟩
  -- the rest of the arrivals, then the ends of the own transfers
  iapply (wp_wait X c (10 + 2) 0 (by decide) (by decide) rfl (credit_o (Or.inr (Or.inl rfl)) rfl _ _)) $$ HX Hc2 HO Hr2
  iintro ⟨HO, Hy2, Hp⟩
  ihave Hg2 := (Entails.of_eq (pay_in X c (show 2 < 10 by decide))) $$ Hp
  iapply (wp_wait X c (10 + 5) 0 (by decide) (by decide) rfl (credit_o (Or.inr (Or.inl rfl)) rfl _ _)) $$ HX Hc5 HO Hr5
  iintro ⟨HO, Hy5, Hp⟩
  ihave Hg5 := (Entails.of_eq (pay_in X c (show 5 < 10 by decide))) $$ Hp
  iapply (wp_wait X c (10 + 6) 0 (by decide) (by decide) rfl (credit_o (Or.inl rfl) rfl _ _)) $$ HX Hc6 HO Hr6
  iintro ⟨HO, Hy6, Hp⟩
  ihave Hg6 := (Entails.of_eq (pay_in X c (show 6 < 10 by decide))) $$ Hp
  iapply (wp_wait X c (10 + 7) 0 (by decide) (by decide) rfl (credit_o (Or.inl rfl) rfl _ _)) $$ HX Hc7 HO Hr7
  iintro ⟨HO, Hy7, Hp⟩
  ihave Hg7 := (Entails.of_eq (pay_in X c (show 7 < 10 by decide))) $$ Hp
  iapply (wp_wait X c (10 + 8) 0 (by decide) (by decide) rfl (credit_o (Or.inl rfl) rfl _ _)) $$ HX Hc8 HO Hr8
  iintro ⟨HO, Hy8, Hp⟩
  ihave Hg8 := (Entails.of_eq (pay_in X c (show 8 < 10 by decide))) $$ Hp
  iapply (wp_wait X c (10 + 9) 0 (by decide) (by decide) rfl (credit_o (Or.inl rfl) rfl _ _)) $$ HX Hc9 HO Hr9
  iintro ⟨HO, Hy9, Hp⟩
  ihave Hg9 := (Entails.of_eq (pay_in X c (show 9 < 10 by decide))) $$ Hp
  iapply (wp_wait X c 0 0 (by decide) (by decide) rfl (credit_x (Or.inl rfl) rfl _ _)) $$ HX Hw0 HO Hs0
  iintro ⟨HO, Hz0, Hp⟩
  ihave Hx0 := (Entails.of_eq (pay_out_x X c (show 0 < 6 by decide))) $$ Hp
  iapply (wp_wait X c 1 0 (by decide) (by decide) rfl (credit_x (Or.inl rfl) rfl _ _)) $$ HX Hw1 HO Hs1
  iintro ⟨HO, Hz1, Hp⟩
  ihave Hx1 := (Entails.of_eq (pay_out_x X c (show 1 < 6 by decide))) $$ Hp
  iapply (wp_wait X c 2 0 (by decide) (by decide) rfl (credit_x (Or.inr (Or.inl rfl)) rfl _ _)) $$ HX Hw2 HO Hs2
  iintro ⟨HO, Hz2, Hp⟩
  ihave Hx2 := (Entails.of_eq (pay_out_x X c (show 2 < 6 by decide))) $$ Hp
  iapply (wp_wait X c 3 0 (by decide) (by decide) rfl (credit_x (Or.inl rfl) rfl _ _)) $$ HX Hw3 HO Hs3
  iintro ⟨HO, Hz3, Hp⟩
  ihave Hx3 := (Entails.of_eq (pay_out_x X c (show 3 < 6 by decide))) $$ Hp
  iapply (wp_wait X c 4 0 (by decide) (by decide) rfl (credit_x (Or.inl rfl) rfl _ _)) $$ HX Hw4 HO Hs4
  iintro ⟨HO, Hz4, Hp⟩
  ihave Hx4 := (Entails.of_eq (pay_out_x X c (show 4 < 6 by decide))) $$ Hp
  iapply (wp_wait X c 5 0 (by decide) (by decide) rfl (credit_x (Or.inr (Or.inl rfl)) rfl _ _)) $$ HX Hw5 HO Hs5
  iintro ⟨HO, Hz5, Hp⟩
  ihave Hx5 := (Entails.of_eq (pay_out_x X c (show 5 < 6 by decide))) $$ Hp
  iapply (wp_wait X c 6 0 (by decide) (by decide) rfl (credit_o (Or.inl rfl) rfl _ _)) $$ HX Hw6 HO Hs6
  iintro ⟨HO, Hz6, Hp⟩
  ihave Hg0 := (Entails.of_eq (pay_out_o X c (m := 0) (show 6 ≤ 6 by decide) (by decide) rfl)) $$ Hp
  iapply (wp_wait X c 7 0 (by decide) (by decide) rfl (credit_o (Or.inl rfl) rfl _ _)) $$ HX Hw7 HO Hs7
  iintro ⟨HO, Hz7, Hp⟩
  ihave Hg1 := (Entails.of_eq (pay_out_o X c (m := 1) (show 6 ≤ 7 by decide) (by decide) rfl)) $$ Hp
  iapply (wp_wait X c 8 0 (by decide) (by decide) rfl (credit_o (Or.inl rfl) rfl _ _)) $$ HX Hw8 HO Hs8
  iintro ⟨HO, Hz8, Hp⟩
  ihave Hg3 := (Entails.of_eq (pay_out_o X c (m := 3) (show 6 ≤ 8 by decide) (by decide) rfl)) $$ Hp
  iapply (wp_wait X c 9 0 (by decide) (by decide) rfl (credit_o (Or.inl rfl) rfl _ _)) $$ HX Hw9 HO Hs9
  iintro ⟨HO, Hz9, Hp⟩
  ihave Hg4 := (Entails.of_eq (pay_out_o X c (m := 4) (show 6 ≤ 9 by decide) (by decide) rfl)) $$ Hp
  iapply (wp_wait X c 20 0 (by decide) (by decide) rfl (credit_o (Or.inr (Or.inr rfl)) rfl _ _)) $$ HX HwC HO HaC
  iintro ⟨HO, HzC, Hp⟩
  ihave HpC := (Entails.of_eq (pay_copy X c)) $$ Hp
  icases HpC with ⟨HgC, HxA⟩
  -- everything put together again
  ihave Hx := (xAll_split X c).2 $$ [HxA Hx0 Hx1 Hx2 Hx3 Hx4 Hx5]
  · isplitl [HxA]; · iexact HxA
    isplitl [Hx0 Hx1 Hx2]
    · isplitl [Hx0]; · iexact Hx0
      isplitl [Hx1] <;> iassumption
    isplitl [Hx3]; · iexact Hx3
    isplitl [Hx4] <;> iassumption
  ihave Hout := (Entails.of_eq (out_split c (stack X)).symm) $$ [Hg0 Hg1 Hg2 Hg3 Hg4 Hg5 Hg6 Hg7 Hg8 Hg9 HgC]
  · unfold got
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9] <;> iassumption
  rw [wp_ret]; imodintro
  iapply Hk
  isplitl [HO]; · iexact HO
  isplitr [Hx Hout]
  · unfold closed shut
    isplitl [Hz0 Hy0 Hz1 Hy1 Hz2 Hy2 Hz3 Hy3 Hz4 Hy4 Hz5 Hy5 Hz6 Hy6 Hz7 Hy7 Hz8 Hy8 Hz9 Hy9]
    · isplitl [Hz0 Hy0]; · isplitl [Hz0] <;> iassumption
      isplitl [Hz1 Hy1]; · isplitl [Hz1] <;> iassumption
      isplitl [Hz2 Hy2]; · isplitl [Hz2] <;> iassumption
      isplitl [Hz3 Hy3]; · isplitl [Hz3] <;> iassumption
      isplitl [Hz4 Hy4]; · isplitl [Hz4] <;> iassumption
      isplitl [Hz5 Hy5]; · isplitl [Hz5] <;> iassumption
      isplitl [Hz6 Hy6]; · isplitl [Hz6] <;> iassumption
      isplitl [Hz7 Hy7]; · isplitl [Hz7] <;> iassumption
      isplitl [Hz8 Hy8]; · isplitl [Hz8] <;> iassumption
      isplitl [Hz9] <;> iassumption
    isplitl [HzC] <;> iassumption
  isplitl [Hx] <;> iassumption

end Cert.Gather

end
-- ==== Proof.Run.lean ====
/- The run of the whole program: how the launch deals out cells, tokens and credit, and what every final state holds. -/
module

public import proofs.«01_k».proof.Proof.Body
public import proofs.«01_k».proof.Proof.Gen.KernelIdeal.Points
public import Idealize.ShloMosaic.Lib.Pipeline.FrameBody
public import Idealize.ShloMosaic.Lib.Pipeline.CollectiveSegs
public import Idealize.ShloMosaic.Adequacy
public import Idealize.ShloMosaic.Init

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over small index sets -/

omit [FloatOps F] in
theorem all10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
omit [FloatOps F] in
theorem all22 (Φ : Fin 22 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10
      ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

omit [FloatOps F] in
theorem regroup_sep (P Q R : sProp 𝕄) : iprop((P ∗ Q) ∗ R) = iprop(P ∗ Q ∗ R) := equiv_iff.mp ⟨BI.sep_assoc, BI.sep_assoc'⟩

omit [FloatOps F] in
theorem sep_swap (P Q : sProp 𝕄) : iprop(P ∗ Q) = iprop(Q ∗ P) := equiv_iff.mp ⟨BI.sep_comm, BI.sep_comm⟩

omit [FloatOps F] in
/-- A conjunction over the 22 cells of a device: the barrier, the sending cells, the receiving ones, the local copy's. -/
theorem all_cells (c : Dev nD) (Φ : GSem nD τ sig → sProp 𝕄) :
    (bigSep Finset.univ fun i : Fin 22 => Φ (kcell (c, i)))
      = iprop(Φ (bar c) ∗ (bigSep Finset.univ fun k : Fin 10 => Φ (cel c k.val))
          ∗ (bigSep Finset.univ fun k : Fin 10 => Φ (cel c (10 + k.val))) ∗ Φ (cel c 20)) := by
  rw [all22, all10, all10]
  simp only [regroup_sep]
  rfl

/-! ## What a device starts from, as the launch deals it -/

/-- The positions of a device, one at each of its cells. -/
def places (c : Dev nD) : sProp 𝕄 := bigSep Finset.univ fun i : Fin 22 => atPos ER (kcell (c, i)) 0 ∅ 0
/-- The tokens of the duties owed at a device's cells. -/
def minted (c : Dev nD) : sProp 𝕄 :=
  iprop((bigSep Finset.univ fun i : Fin 22 => dutyTok ER (kcell (c, i)) 0 false) ∗ dutyTok ER (bar c) 0 true)
/-- The tokens of the duties a device pays. -/
def payable (c : Dev nD) : sProp 𝕄 :=
  iprop((dutyTok ER (bar (prv c)) 0 false ∗ (bigSep Finset.univ fun k : Fin 10 => dutyTok ER (cel c k.val) 0 false)
      ∗ (bigSep Finset.univ fun k : Fin 10 => dutyTok ER (cel (tgt k.val c) (10 + k.val)) 0 false) ∗ dutyTok ER (cel c 20) 0 false)
    ∗ dutyTok ER (bar (nxt c)) 0 true)
/-- The credit of a device: both neighbours' words, and every transfer addressed to it. -/
def credits (c : Dev nD) : sProp 𝕄 :=
  iprop(cred (tallyAt (bar c) () 2) ∗ bigSep Finset.univ fun k : Fin 10 => cred (tallyAt (cel c (10 + k.val)) () (amt (10 + k.val))))

omit [FloatOps F] in
theorem mine_intro (c : Dev nD) : iprop(places c ∗ payable c ∗ credits c) ⊢ (mine c : sProp 𝕄) := by
  have hk : (bigSep Finset.univ fun k : Fin 10 => (kit c k.val : sProp 𝕄))
      = iprop(((bigSep Finset.univ fun k : Fin 10 => dutyTok ER (cel c k.val) 0 false)
          ∗ (bigSep Finset.univ fun k : Fin 10 => dutyTok ER (cel (tgt k.val c) (10 + k.val)) 0 false))
        ∗ (bigSep Finset.univ fun k : Fin 10 => atPos ER (cel c k.val) 0 ∅ 0)
        ∗ (bigSep Finset.univ fun k : Fin 10 => atPos ER (cel c (10 + k.val)) 0 ∅ 0)
        ∗ (bigSep Finset.univ fun k : Fin 10 => cred (tallyAt (cel c (10 + k.val)) () (amt (10 + k.val))))) := by
    unfold kit stok; rw [bigSep_sep', bigSep_sep', bigSep_sep', bigSep_sep']
  have hk' : (iprop(kit c 0 ∗ kit c 1 ∗ kit c 2 ∗ kit c 3 ∗ kit c 4 ∗ kit c 5 ∗ kit c 6 ∗ kit c 7 ∗ kit c 8 ∗ kit c 9) : sProp 𝕄)
      = bigSep Finset.univ fun k : Fin 10 => kit c k.val := (all10 fun k : Fin 10 => kit c k.val).symm
  unfold places payable credits mine
  rw [all_cells c fun g => atPos ER g 0 ∅ 0, hk', hk]
  iintro ⟨⟨HaB, HaS, HaR, HaC⟩, ⟨⟨HtP, HtS, HtR, HtC⟩, HtN⟩, HcB, HcR⟩
  isplitl [HtS HtR HaS HaR HcR]
  · isplitl [HtS HtR]; · isplitl [HtS] <;> iassumption
    isplitl [HaS]; · iexact HaS
    isplitl [HaR] <;> iassumption
  isplitl [HtC HaC]; · isplitl [HtC] <;> iassumption
  isplitl [HtP]; · iexact HtP
  isplitl [HtN]; · iexact HtN
  isplitl [HaB] <;> iassumption

/-- The receiving cells, renamed so that each is at the device addressed. -/
def aim : Dev nD × Fin 10 ≃ Dev nD × Fin 10 :=
  ⟨fun p => (tgt p.2.val p.1, p.2), fun p => (org p.2.val p.1, p.2),
    fun p => Prod.ext (org_tgt _ _) rfl, fun p => Prod.ext (tgt_org _ _) rfl⟩

omit [FloatOps F] in
/-- All tokens minted are all tokens payable. -/
theorem deal : (bigSep Finset.univ fun c : Dev nD => (minted c : sProp 𝕄)) ⊢ bigSep Finset.univ fun c : Dev nD => payable c := by
  have ha : (bigSep Finset.univ fun c : Dev nD => bigSep Finset.univ fun k : Fin 10 => (dutyTok ER (cel c (10 + k.val)) 0 false : sProp 𝕄))
      = bigSep Finset.univ fun c : Dev nD => bigSep Finset.univ fun k : Fin 10 => dutyTok ER (cel (tgt k.val c) (10 + k.val)) 0 false := by
    rw [← bigSep_univ_prod (fun p : Dev nD × Fin 10 => (dutyTok ER (cel p.1 (10 + p.2.val)) 0 false : sProp 𝕄)),
      bigSep_univ_equiv aim, bigSep_univ_prod]
    rfl
  unfold minted payable
  simp only [fun c : Dev nD => all_cells (F := F) c fun g => dutyTok ER g 0 false, bigSep_sep']
  rw [ha, bigSep_univ_equiv ring.symm (fun c : Dev nD => (dutyTok ER (bar c) 0 false : sProp 𝕄)),
    bigSep_univ_equiv ring (fun c : Dev nD => (dutyTok ER (bar c) 0 true : sProp 𝕄))]
  exact BI.Entails.refl _

/-! ## The credit at launch -/

theorem ow_bar (d c : Dev nD) (j : ℕ) : ow d j (bar c) () = 0 := by
  by_contra h
  obtain ⟨s, _, _, h3⟩ := ow_pos d (Nat.pos_of_ne_zero h)
  exact cel_ne_bar h3.symm

theorem ow_cel (d c : Dev nD) {k : ℕ} (hk : k < 10) : ∀ j, j ≤ 10 →
    ow d j (cel c (10 + k)) () = if 10 - j ≤ k ∧ d = org k c then amt (10 + k) else 0
  | 0, _ => by rw [if_neg (fun h => by omega)]; rfl
  | j + 1, hj => by
    rw [ow, Pi.add_apply, Finsupp.add_apply, ow_cel d c hk j (by omega), tallyAt_apply]
    by_cases hs : k = 9 - j
    · subst hs
      rw [if_neg (fun h => by omega), Nat.zero_add]
      refine if_congr ⟨fun h => ⟨by omega, ?_⟩, fun h => ⟨?_, rfl⟩⟩ rfl rfl
      · rw [(cel_inj (by omega) (by omega) h.1).1, org_tgt]
      · rw [h.2, tgt_org]
    · rw [if_neg (c := cel c (10 + k) = _ ∧ _) (fun h => hs (by have := (cel_inj (by omega) (by omega) h.1).2; omega)), Nat.add_zero]
      exact if_congr (and_congr_left fun _ => ⟨fun h => by omega, fun h => by omega⟩) rfl rfl

theorem owed_bar (d c : Dev nD) : O₀ d (bar c) () = (if d = prv c then 1 else 0) + (if d = nxt c then 1 else 0) := by
  unfold O₀
  rw [Pi.add_apply, Finsupp.add_apply, Pi.add_apply, Finsupp.add_apply, ow_bar, tallyAt_apply, tallyAt_apply, Nat.zero_add]
  refine congrArg₂ _ (if_congr ⟨fun h => ?_, fun h => ⟨?_, rfl⟩⟩ rfl rfl) (if_congr ⟨fun h => ?_, fun h => ⟨?_, rfl⟩⟩ rfl rfl)
  · rw [bar_inj h.1, prv_nxt]
  · rw [h, nxt_prv]
  · rw [bar_inj h.1, nxt_prv]
  · rw [h, prv_nxt]

theorem owed_cel (d c : Dev nD) {k : ℕ} (hk : k < 10) : O₀ d (cel c (10 + k)) () = if d = org k c then amt (10 + k) else 0 := by
  unfold O₀
  rw [Pi.add_apply, Finsupp.add_apply, Pi.add_apply, Finsupp.add_apply, ow_cel d c hk 10 (le_refl _),
    tallyAt_ne_cell cel_ne_bar, tallyAt_ne_cell cel_ne_bar, Finsupp.zero_apply, Nat.add_zero, Nat.add_zero]
  exact if_congr ⟨fun h => h.2, fun h => ⟨by omega, h⟩⟩ rfl rfl

omit [FloatOps F] in
/-- A cell's credit at launch is what all devices owe it. -/
theorem credit_of (c : Dev nD) (sm : SemLoc sig) (n : ℕ) (h : ∑ d : Dev nD, O₀ d ((c : Thread nD τ), sm) () = n) :
    (cred (tallyOn ((c : Thread nD τ), sm) (launchCredit (Pipeline.owing O₀) 0 ((c : Thread nD τ), sm))) : sProp 𝕄)
      = cred (tallyAt ((c : Thread nD τ), sm) () n) := by
  unfold tallyAt
  refine congrArg (fun t => cred (tallyOn ((c : Thread nD τ), sm) t)) (Finsupp.ext fun u => ?_)
  cases u
  rw [Pipeline.launchCredit_owing, Finsupp.single_eq_same, h]

/-- The semaphores of a device others raise: the barrier, and the receiving ones. -/
def raisedAt : Unit ⊕ Fin 10 → SemLoc sig
  | .inl _ => .reg barS
  | .inr k => .dma (ds (2 + (10 + k.val)))
theorem raisedAt_injective : Function.Injective raisedAt := by decide

omit [FloatOps F] in
theorem credits_intro (c : Dev nD) : (Pipeline.launchCred O₀ c : sProp 𝕄) ⊢ credits c := by
  have hs : ∀ c : Dev nD, (∑ d : Dev nD, ((if d = prv c then 1 else 0) + (if d = nxt c then 1 else 0))) = 2 := by decide
  have hb := credit_of (F := F) c (.reg barS) 2 ((Finset.sum_congr rfl fun d _ => owed_bar d c).trans (hs c))
  have hc : ∀ k : Fin 10, _ := fun k => credit_of (F := F) c (.dma (ds (2 + (10 + k.val)))) (amt (10 + k.val))
    ((Finset.sum_congr rfl fun d _ => owed_cel d c k.isLt).trans
      ((Finset.sum_ite_eq' Finset.univ (org k.val c) fun _ => amt (10 + k.val)).trans (if_pos (Finset.mem_univ _))))
  unfold Pipeline.launchCred credits
  refine (bigSep_subset (Finset.subset_univ (Finset.univ.map ⟨raisedAt, raisedAt_injective⟩))).trans ?_
  rw [bigSep_map, bigSep_univ_sum, bigSep_univ_of_subsingleton ()]
  exact Entails.of_eq (congrArg₂ (fun P Q : sProp 𝕄 => iprop(P ∗ Q)) hb (bigSep_congr fun k _ => hc k))

/-! ## The pipeline's data -/

/-- Each device's block of the input. -/
def xin (c : Dev nD) : S256x256.Idx → Elt F .f32 := (win0_0.blk (0 : Fin 1)).view.read (Elt F) (m ((c : Thread nD τ).loc main_arg0))

/-- What a device's kernel starts from. -/
def start (c : Dev nD) : sProp 𝕄 := iprop(ctx (xin m) ∗ mine c)

/-- The proof data: the input block stays, the output becomes the gathered one; all cells are closed at the end. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => stack (xin m)
  Φ t := match t with
    | ⟨0, _⟩ => start m c
    | ⟨_ + 1, _⟩ => closed c
  q _ := fullShare
  owed t := match t with
    | ⟨0, _⟩ => O₀ c
    | ⟨_ + 1, _⟩ => 0

/-! ## The body's obligation -/

omit [FloatOps F] in
/-- A staging buffer held whole. -/
theorem held_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ ((c : Thread nD τ).loc b ↦{fullShare} g)) := by
  unfold owns; simp only [Memref.view_whole, View.read_whole, View.set_whole]

/-- Staging buffer `b` at the contents `f`, as the pipeline states it. -/
abbrev held (c : Dev nD) (b : Ref sig .tc) (f : b.ty.Contents (Elt F)) : sProp 𝕄 :=
  iprop(∃ g : Buf (Elt F) ((c : Thread nD τ).loc b), ⌜g = f⌝ ∗ ((c : Thread nD τ).loc b ↦{fullShare} g))

/-- What the pipeline hands the body, -/
def entry (c : Dev nD) : sProp 𝕄 :=
  iprop(start m c ∗ (dats m 0 c).owesAt () t0_0.castSucc
    ∗ (∃ d, held c cc0_stg0_0 ((dats m 0 c).before (0 : Fin 2) t0_0 d)) ∗ (∃ d, held c cc0_stg1_0 ((dats m 0 c).before (1 : Fin 2) t0_0 d)))
/-- and what it expects back. -/
def exit (c : Dev nD) : sProp 𝕄 :=
  iprop(closed c ∗ (dats m 0 c).owesAt () t0_0.succ ∗ held c cc0_stg0_0 (xin m c) ∗ held c cc0_stg1_0 (stack (xin m)))

theorem body_from_entry (c : Dev nD) :
    entry m c ⊢ wp frame (wpE (defs₀ (F := F)) 𝒱₀ (c : Thread nD τ) none) Set.univ
      (cc0_body (Memref.whole cc0_stg0_0) (Memref.isWhole_whole _) (Memref.whole cc0_stg1_0) (Memref.isWhole_whole _)
        cc0_scratch0 cc0_scratch1 cc0_scratch2) (fun _ => exit m c) := by
  unfold entry start
  iintro ⟨⟨#HX, Hm⟩, Ho, ⟨%d0, %g0, %hg0, Hx⟩, ⟨%d1, %g1, %hg1, Hout⟩⟩
  have hx : g0 = xin m c := by rw [hg0]; unfold Dat.before; rw [if_pos (fetch0_0 t0_0)]; rfl
  subst hx
  ihave Hx' := (Entails.of_eq (xAll_eq (xin m) c).symm) $$ Hx
  unfold Dat.owesAt Pipeline.owesWithin
  icases Ho with ⟨%W, %hW, HO⟩
  rw [show (dats m 0 c).owed t0_0.castSucc = O₀ c from rfl]
  iapply (run_body (xin m) c fun _ => exit m c) $$ HX Hm [HO] Hx' [Hout]
  · unfold owing; iexists W; iexact HO
  · iexists g1; iexact Hout
  iintro ⟨HO, Hz, Hx, Hout⟩
  unfold owing exit Dat.owesAt Pipeline.owesWithin
  icases HO with ⟨%W', HO⟩
  rw [show (dats m 0 c).owed t0_0.succ = 0 from rfl]
  isplitl [Hz]; · iexact Hz
  isplitl [HO]
  · iexists W'
    isplitr; · ipureintro; exact fun _ _ => Or.inl trivial
    iexact HO
  isplitl [Hx]
  · iexists _; isplitr; · (ipureintro; rfl)
    iapply (Entails.of_eq (xAll_eq (xin m) c)); iexact Hx
  iexists _; isplitr; · (ipureintro; rfl)
  iexact Hout

set_option maxRecDepth 4000 in
theorem body_sound (c : Dev nD) : BodyObligation (dats (F := F) m 0 c) (defs₀ (F := F)) 𝒱₀ () Set.univ := fun t => by
  rw [fin_N0 t, bigSep_W0, bigSep_W0]
  simp only [held_whole]
  exact body_from_entry m c

/-! ## The launch -/

/-- The kernel's own semaphores: all but the barrier. -/
abbrev osem (i : Fin 21) : SemLoc sig := csem i.succ

theorem ownSemFacts : Pipeline.OwnSemFacts cfg0.spec osem := by decide

theorem csem_injective : Function.Injective csem := by decide
theorem kcell_injective : Function.Injective kcell := fun p q h =>
  Prod.ext (congrArg (fun g : GSem nD τ sig => g.1.1) h) (csem_injective (congrArg Prod.snd h))

def allCells : Finset (GSem nD τ sig) := Finset.univ.map ⟨kcell, kcell_injective⟩

/-- The duties at a device's cells: one at each, a second at the barrier. -/
def dutyAt (p : Dev nD × (Fin 22 ⊕ Unit)) : GSem nD τ sig × ℕ × Bool := match p.2 with
  | .inl i => (kcell (p.1, i), 0, false)
  | .inr _ => (bar p.1, 0, true)
theorem dutyAt_injective : Function.Injective dutyAt := by
  rintro ⟨c, i | _⟩ ⟨d, j | _⟩ h
  · have h' := kcell_injective (congrArg Prod.fst h)
    exact congrArg (fun q : Dev nD × Fin 22 => ((q.1, Sum.inl q.2) : Dev nD × (Fin 22 ⊕ Unit))) h'
  · exact absurd (congrArg (fun x : GSem nD τ sig × ℕ × Bool => x.2.2) h) Bool.false_ne_true
  · exact absurd (congrArg (fun x : GSem nD τ sig × ℕ × Bool => x.2.2) h).symm Bool.false_ne_true
  · rw [show c = d from congrArg (fun x : GSem nD τ sig × ℕ × Bool => x.1.1.1) h]
def allDuties : Finset (GSem nD τ sig × ℕ × Bool) := Finset.univ.map ⟨dutyAt, dutyAt_injective⟩

/-- The ghost state at launch: the pipeline's, and this protocol's. -/
def launchGhost : UU :=
  (initOf (Pipeline.cells cfgs cellOf_inj) (Pipeline.launchToks cfgs cellOf_inj), initOf allCells allDuties)

/-- A device's part of it. -/
def share (c : Dev nD) : sProp 𝕄 :=
  iprop((bigSep Finset.univ fun i : Fin 22 => roundState ER (rd (xin m)) (kcell (c, i)) 0)
    ∗ places c ∗ (bigSep Finset.univ fun i : Fin 22 => reached ER (kcell (c, i)) 0) ∗ minted c)

/-- What the launch makes of it, all devices together. -/
def known : sProp 𝕄 :=
  bigSep Finset.univ fun ci : Dev nD × Fin 22 => iprop((∃ κ : ℕ, cellInv ER (rd (xin m)) κ (kcell ci)) ∗ reached ER (kcell ci) 0)
instance known_persistent : BI.Persistent (known m) := by unfold known; infer_instance
def dealt (c : Dev nD) : sProp 𝕄 := iprop(known m ∗ places c ∗ payable c)

omit [FloatOps F] in
theorem over_cells (Φ : GSem nD τ sig → sProp 𝕄) :
    bigSep allCells Φ = bigSep Finset.univ fun c : Dev nD => bigSep Finset.univ fun i : Fin 22 => Φ (kcell (c, i)) := by
  unfold allCells; rw [bigSep_map, bigSep_univ_prod]; rfl

omit [FloatOps F] in
theorem over_duties : bigSep allDuties (fun x => (dutyTok ER x.1 x.2.1 x.2.2 : sProp 𝕄)) = bigSep Finset.univ fun c : Dev nD => minted c := by
  unfold allDuties; rw [bigSep_map, bigSep_univ_prod]
  refine bigSep_congr fun c _ => ?_
  unfold minted; rw [bigSep_univ_sum, bigSep_univ_of_subsingleton ()]; rfl

theorem fund : BI.own (ER (initOf allCells allDuties)) ⊢ (|==> bigSep Finset.univ (share m) : sProp 𝕄) := by
  iintro HX
  imod (Rounds.fund ER (rd (xin m)) allCells allDuties) $$ HX with ⟨Hst, Hr, Hat, Htok⟩
  imodintro
  unfold share places
  rw [bigSep_sep', bigSep_sep', bigSep_sep', ← over_cells (fun g => roundState ER (rd (xin m)) g 0), ← over_cells (fun g => atPos ER g 0 ∅ 0),
    ← over_cells (fun g => reached ER g 0), ← over_duties]
  isplitl [Hst]; · iexact Hst
  isplitl [Hat]; · iexact Hat
  isplitl [Hr] <;> iassumption

omit [FloatOps F] in
theorem barrier_sem (c : Dev nD) : (unscopedSems0 c : sProp 𝕄) = semVal (bar c) 0 := by
  unfold unscopedSems0; rw [bigSep_eq_bigSepL_of_eq [SemLoc.reg barS] (by decide) (by decide)]; rfl

omit [FloatOps F] in
/-- The own semaphores and the barrier are the 22 cells. -/
theorem sems_cells (c : Dev nD) :
    (iprop(Pipeline.ownSems0 (Ix := Unit) (Name := ℕ) (U := UU) (Lvl := ℕ) (Val := Elt F) (τ := τ) osem c ∗ unscopedSems0 c) : sProp 𝕄)
      = bigSep Finset.univ fun i : Fin 22 => semVal (kcell (c, i)) 0 := by
  rw [barrier_sem, Pipeline.ownSems0_eq_of_list c osem [0, 1, 2, 3, 4, 5, 6, 7, 8, 9, 10, 11, 12, 13, 14, 15, 16, 17, 18, 19, 20] (by decide) (by decide),
    all22]
  exact sep_swap _ _

/-- The cells of a device opened. -/
theorem open_cells (c : Dev nD) :
    iprop(Pipeline.ownSems0 (Ix := Unit) (Name := ℕ) (U := UU) (Lvl := ℕ) (Val := Elt F) (τ := τ) osem c ∗ unscopedSems0 c ∗ share m c)
      ⊢ |={Set.univ}=> iprop((bigSep Finset.univ fun i : Fin 22 => iprop((∃ κ : ℕ, cellInv ER (rd (xin m)) κ (kcell (c, i))) ∗ reached ER (kcell (c, i)) 0))
          ∗ places c ∗ minted c) := by
  have ha : iprop((bigSep Finset.univ fun i : Fin 22 => semVal (kcell (c, i)) 0) ∗ bigSep Finset.univ fun i : Fin 22 => roundState ER (rd (xin m)) (kcell (c, i)) 0)
      ⊢ (|={Set.univ}=> bigSep Finset.univ fun i : Fin 22 => iprop(∃ κ : ℕ, cellInv ER (rd (xin m)) κ (kcell (c, i))) : sProp 𝕄) := by
    rw [← bigSep_sep']
    exact (bigSep_mono fun i _ => (Rounds.body_intro ER (rd (xin m)) (kcell (c, i))).trans inv_alloc).trans (bigSep_fupd _ _)
  unfold share
  rw [bigSep_sep']
  iintro ⟨Hos, Hus, Hst, Hat, Hr, Htok⟩
  imod ha $$ [Hos Hus Hst] with Hinv
  · isplitl [Hos Hus]
    · iapply (Entails.of_eq (sems_cells (F := F) c)); isplitl [Hos] <;> iassumption
    iexact Hst
  imodintro
  isplitl [Hinv Hr]; · isplitl [Hinv] <;> iassumption
  isplitl [Hat] <;> iassumption

theorem deal_all :
    (bigSep Finset.univ fun c : Dev nD => iprop((bigSep Finset.univ fun i : Fin 22 =>
        iprop((∃ κ : ℕ, cellInv ER (rd (xin m)) κ (kcell (c, i))) ∗ reached ER (kcell (c, i)) 0)) ∗ places c ∗ minted c) : sProp 𝕄)
      ⊢ bigSep Finset.univ (dealt m) := by
  unfold dealt
  rw [bigSep_sep', bigSep_sep', bigSep_sep', bigSep_sep',
    ← bigSep_univ_prod (fun ci : Dev nD × Fin 22 => iprop((∃ κ : ℕ, cellInv ER (rd (xin m)) κ (kcell ci)) ∗ reached ER (kcell ci) 0))]
  iintro ⟨HI, Hat, Htok⟩
  isplitl [HI]
  · iapply (BI.bigSep_of_persistent (Finset.univ : Finset (Dev nD)) (known m)); unfold known; iexact HI
  isplitl [Hat]; · iexact Hat
  iapply (deal (F := F)); iexact Htok

/-- All devices' cells opened, the tokens dealt to those who pay. -/
theorem open_all :
    (bigSep Finset.univ fun c => iprop(Pipeline.ownSems0 (Ix := Unit) (Name := ℕ) (U := UU) (Lvl := ℕ) (Val := Elt F) (τ := τ) osem c ∗ unscopedSems0 c ∗ share m c) : sProp 𝕄)
      ⊢ |={Set.univ}=> bigSep Finset.univ (dealt m) :=
  ((bigSep_mono fun c _ => open_cells m c).trans (bigSep_fupd _ _)).trans (BI.fupd_mono (deal_all m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  unfold start dealt ctx known
  iintro ⟨-, Hlev, Hcr, -, HK, Hat, Htok⟩
  imodintro
  isplitl
  · isplitl [HK Hlev]; · isplitl [HK] <;> iassumption
    iapply (mine_intro (F := F) c)
    isplitl [Hat]; · iexact Hat
    isplitl [Htok]; · iexact Htok
    iapply (credits_intro (F := F) c); iexact Hcr
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

omit [FloatOps F] in
theorem closed_cells (c : Dev nD) : (closed c : sProp 𝕄) ⊢ bigSep Finset.univ fun i : Fin 22 => semVal (kcell (c, i)) 0 := by
  have hk : (iprop(shut c 0 ∗ shut c 1 ∗ shut c 2 ∗ shut c 3 ∗ shut c 4 ∗ shut c 5 ∗ shut c 6 ∗ shut c 7 ∗ shut c 8 ∗ shut c 9) : sProp 𝕄)
      = iprop((bigSep Finset.univ fun k : Fin 10 => semVal (cel c k.val) 0) ∗ bigSep Finset.univ fun k : Fin 10 => semVal (cel c (10 + k.val)) 0) := by
    rw [← bigSep_sep']; exact (all10 fun k : Fin 10 => shut c k.val).symm
  unfold closed
  rw [hk, all_cells c fun g => semVal g 0]
  iintro ⟨⟨HS, HR⟩, HC, HB⟩
  isplitl [HB]; · iexact HB
  isplitl [HS]; · iexact HS
  isplitl [HR] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = closed c from rfl, scopedRest0_eq]
  iintro H
  ihave H' := (closed_cells (F := F) c) $$ H
  ihave H'' := (Entails.of_eq (sems_cells (F := F) c).symm) $$ H'
  icases H'' with ⟨Ho, Hu⟩
  isplitl [Hu]; · iexact Hu
  isplitl [Ho]; · iexact Ho
  iempintro

theorem stage_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_full (c : Dev nD) (w : Fin cfg0.W) : (dats m 0 c).share w = fullShare := by unfold Dat.share; split <;> rfl

/-- Every array of the program at its contents after the run. -/
def Final (r : PUnit × MemSt nD τ sig (Elt F)) : Prop :=
  ∀ c : Dev nD, ∀ w : Fin cfg0.W, r.2.mem ((cfg0.win w).arr.view.loc (c : Thread nD τ)) = (dats m 0 c).arrAt w cfg0.N

set_option maxRecDepth 8000 in
/-- From any memory with all counters at zero, every weakly fair run of the program ends, with every array at its final
    contents and every counter at zero. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_sound m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := stage_waits m)
    (G := share m) (G' := dealt m) (u₀ := launchGhost)
    (hu₀ := by
      unfold launchGhost
      iintro Hu
      ihave H := (ownU_pair _ _) $$ Hu
      icases H with ⟨HP, HX⟩
      imod (fund m) $$ HX with HG
      imodintro
      isplitl [HP] <;> iassumption)
    (hglob := open_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it was. -/
theorem final_in (c : Dev nD) : (dats m 0 c).arrAt (0 : Fin 2) cfg0.N = m ((c : Thread nD τ).loc main_arg0) :=
  (dats (F := F) m 0 c).arrAt_in (0 : Fin 2) rfl _

end Cert.Gather

end
-- ==== Proof.Value.lean ====
/- The value: the gathered block is the whole array the input blocks were cut from, and the reference's run. -/
module

public import proofs.«01_k».proof.Proof.Run
public import proofs.«01_k».proof.Proof.Gen.ReferenceIdeal
public import Idealize.ShloMosaic.Lib.Layout
public import Idealize.ShloMosaic.Lib.Pipeline.ValueKit.Geometry
public import Idealize.ShloMosaic.Lib.StableHlo.Run

@[expose] public section

noncomputable section

namespace Cert.Gather

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ)

/-! ## What the kernel's arrays hold -/

/-- The block a device's kernel reads is its whole argument. -/
theorem xin_eq (c : Dev nD) (j : S256x256.Idx) : xin m c j = m ((c : Thread nD τ).loc main_arg0) j := by
  show m ((c : Thread nD τ).loc main_arg0) ((win0_0.blk (0 : Fin 1)).view.emb j) = _
  congr 1
  funext a
  apply Fin.ext
  blk_simp
  fin_cases a <;> exact Nat.zero_add _

/-- The output array ends as the four blocks, stacked. -/
theorem final_out (c : Dev nD) : (dats m 0 c).arrAt (1 : Fin 2) cfg0.N = stack (xin m) := by
  refine (dats m 0 c).arrAt_eq_of_after_last (1 : Fin 2) t0_0 (by decide +kernel) (stack (xin m)) fun j => ?_
  rfl

/-- Whatever array the devices' arguments are the row blocks of, the stack of the blocks is that array. -/
theorem stack_blocks (v : (⟨2, ![1024, 256]⟩ : Shape).Idx → Elt F .f32)
    (h : ∀ c : Dev nD, m ((c : Thread nD τ).loc main_arg0)
      = Layout.block ⟨2, ![256, 256]⟩ ⟨2, ![1024, 256]⟩ 0 4 c v) : stack (xin m) = v := by
  funext i
  unfold stack
  rw [xin_eq, h, Layout.block_apply]
  congr 1
  funext a
  apply Fin.ext
  match a with
  | ⟨0, _⟩ =>
    show (i 0).val / 256 * 256 + (i 0).val % 256 = (i 0).val
    omega
  | ⟨1, _⟩ => rfl

/-! ## The reference -/

/-- The reference runs no operation: its memory ends as it began, with every counter at zero. -/
theorem run_reference (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F)))
      ⟨m, fun _ => 0, ρ⟩ fun r =>
        (∀ c : Dev Cert.ReferenceIdeal.nD, r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0 := by
  refine (θ_run Cert.ReferenceIdeal.defs _ _).mono (fun r h => ?_)
    (StableHlo.run_seq (by decide) (by decide) Cert.ReferenceIdeal.defs Cert.ReferenceIdeal.main (fun _ => []) (fun _ => rfl)
      (fun _ => trivial) m ρ)
  exact ⟨fun c => h c _, sem_eq_zero_of_no_sems (by decide) r.2⟩

end Cert.Gather

end
-- ==== Proof.lean ====
/- The five claims: the kernel and its reading over exact numbers run and leave their arguments, so does the reference,
   and every device of the kernel ends with the array the reference returns. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Idealize.ShloMosaic Idealize.SL.Sem

/-- Over any float values the kernel ends, its argument unchanged and every counter at zero. -/
theorem frame_of_run {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono
    (fun _ h => ⟨fun c => (h.1 c (0 : Fin 2)).trans (Gather.final_in m c), h.2⟩) (Gather.run_main m g)

section

variable {F : FTy → Type} [FloatOps F]

/-- Both readings of the kernel run the same body; -/
theorem body_same : Cert.Kernel.cc0_body (F := F) = Cert.KernelIdeal.cc0_body (F := F) := rfl

/-- so do their tables of bodies, label by label, -/
theorem bodies_same : Cert.Kernel.defs₀ (F := F) = Cert.KernelIdeal.defs₀ (F := F) := by
  funext p l
  match p, l with
  | .tc, ⟨0, _⟩ => rfl
  | .tc, ⟨_ + 1, h⟩ => exact absurd h (Nat.not_lt.2 (Nat.le_add_left _ _))
  | .scScalar _, _ => rfl
  | .scVector _ _, _ => rfl

/-- and their tables with the pipeline's own entries. -/
theorem tables_same : Cert.Kernel.defs (F := F) = Cert.KernelIdeal.defs (F := F) :=
  congrArg (Pipeline.defs (Cert.Kernel.pcfgs (F := F))) bodies_same

end

/-- The kernel as written, on machine floats: it ends, its argument unchanged and every counter at zero. -/
theorem frame_kernel : Cert.quiescent_Kernel := fun m g _ => by
  rw [tables_same]
  exact frame_of_run (F := Bits) m g

/-- The same kernel over exact numbers. -/
theorem frame_ideal : Cert.quiescent_KernelIdeal := fun m g _ =>
  frame_of_run (F := Ideal) m g

/-- The reference, which does nothing. -/
theorem frame_reference : Cert.quiescent_ReferenceIdeal := fun m g _ => Gather.run_reference m g

/-- When the devices hold the row blocks of an array, every device ends holding that array, which is also the reference's result. -/
theorem gathers : Cert.algebraic_KernelIdeal_ReferenceIdeal := fun m g m' g' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c (1 : Fin 2)).trans (Gather.final_out m c)).trans (Gather.stack_blocks m _ hx),
        (h.1 c (0 : Fin 2)).trans (Gather.final_in m c)⟩) (Gather.run_main (F := Ideal) m g),
    (θ_run Cert.ReferenceIdeal.defs _ _).mono (fun _ h => ⟨h.1 0, h.1 0⟩) (Gather.run_reference (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, gathers⟩

end Cert.Proof

end
